-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 2048]⟩ ⟨2, ![512, 4096]⟩ (Layout.meshBlock [2, 2] ![[], [1]] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![512, 4096]⟩ (Layout.meshBlock [2, 2] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x2048 : Shape := ⟨2, ![512, 2048]⟩
abbrev S_ : Shape := ⟨0, ![]⟩
abbrev S256x2048 : Shape := ⟨2, ![256, 2048]⟩
abbrev S512x512 : Shape := ⟨2, ![512, 512]⟩
abbrev S256x512 : Shape := ⟨2, ![256, 512]⟩
abbrev S8 : Shape := ⟨1, ![8]⟩
abbrev S1 : Shape := ⟨1, ![1]⟩
abbrev S32x512 : Shape := ⟨2, ![32, 512]⟩

abbrev nBuf : Space → Nat
  | .hbm => 18
  | .vmem => 7
  | .smem => 0
  | _ => 0

abbrev bufTy : (tb : Table) → Fin (tcTables nBuf tb) → BufTy
  | .hbm, ⟨0, _⟩ => ⟨S512x2048, .bf16⟩
  | .hbm, ⟨1, _⟩ => ⟨S512x2048, .bf16⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S256x2048, .bf16⟩
  | .hbm, ⟨17, _⟩ => ⟨S512x512, .f32⟩
  | .local _ .vmem, ⟨0, _⟩ => ⟨S256x2048, .bf16⟩
  | .local _ .vmem, ⟨1, _⟩ => ⟨S512x2048, .bf16⟩
  | .local _ .vmem, ⟨2, _⟩ => ⟨S512x512, .f32⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_v6 : Ref sig .tc := ⟨.hbm, 11, rfl⟩
abbrev main_c_3 : Ref sig .tc := ⟨.hbm, 12, rfl⟩
abbrev main_v7 : Ref sig .tc := ⟨.hbm, 13, rfl⟩
abbrev main_v8 : Ref sig .tc := ⟨.hbm, 14, rfl⟩
abbrev main_c_4 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_12 : BitVec 32 := 2#32
  let v21 : BitVec 32 := Scalar.muli v2 c2_i32_12
  let v22 : BitVec 32 := Scalar.addi c0_i32 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v23 : BitVec 32 := Scalar.muli v6 c1_i32_13
  let v24 : BitVec 32 := Scalar.addi v22 v23
  v24.toNat
def k0_dev2 (d0 : Dev nD) : Nat :=
  let c0_i32_16 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_15 : BitVec 32 := 2#32
  let v25 : BitVec 32 := Scalar.muli v7 c2_i32_15
  let v26 : BitVec 32 := Scalar.addi c0_i32_16 v25
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v27 : BitVec 32 := Scalar.muli v5 c1_i32_17
  let v28 : BitVec 32 := Scalar.addi v26 v27
  v28.toNat
def k0_dev3 (d0 : Dev nD) : Nat :=
  let c0_i32_22 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_21 : BitVec 32 := 2#32
  let v29 : BitVec 32 := Scalar.muli v2 c2_i32_21
  let v30 : BitVec 32 := Scalar.addi c0_i32_22 v29
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_23 : BitVec 32 := 1#32
  let v31 : BitVec 32 := Scalar.muli v6 c1_i32_23
  let v32 : BitVec 32 := Scalar.addi v30 v31
  v32.toNat
def k0_dev4 (d0 : Dev nD) : Nat :=
  let c0_i32_31 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_30 : BitVec 32 := 2#32
  let v39 : BitVec 32 := Scalar.muli v2 c2_i32_30
  let v40 : BitVec 32 := Scalar.addi c0_i32_31 v39
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_32 : BitVec 32 := 1#32
  let v41 : BitVec 32 := Scalar.muli v6 c1_i32_32
  let v42 : BitVec 32 := Scalar.addi v40 v41
  v42.toNat
def k0_dev5 (d0 : Dev nD) : Nat :=
  let c0_i32_39 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_38 : BitVec 32 := 2#32
  let v49 : BitVec 32 := Scalar.muli v2 c2_i32_38
  let v50 : BitVec 32 := Scalar.addi c0_i32_39 v49
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_40 : BitVec 32 := 1#32
  let v51 : BitVec 32 := Scalar.muli v6 c1_i32_40
  let v52 : BitVec 32 := Scalar.addi v50 v51
  v52.toNat
def k0_dev6 (d0 : Dev nD) : Nat :=
  let c0_i32_46 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_45 : BitVec 32 := 2#32
  let v59 : BitVec 32 := Scalar.muli v2 c2_i32_45
  let v60 : BitVec 32 := Scalar.addi c0_i32_46 v59
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_47 : BitVec 32 := 1#32
  let v61 : BitVec 32 := Scalar.muli v6 c1_i32_47
  let v62 : BitVec 32 := Scalar.addi v60 v61
  v62.toNat
def k0_dev7 (d0 : Dev nD) : Nat :=
  let c0_i32_53 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_52 : BitVec 32 := 2#32
  let v69 : BitVec 32 := Scalar.muli v2 c2_i32_52
  let v70 : BitVec 32 := Scalar.addi c0_i32_53 v69
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_54 : BitVec 32 := 1#32
  let v71 : BitVec 32 := Scalar.muli v6 c1_i32_54
  let v72 : BitVec 32 := Scalar.addi v70 v71
  v72.toNat
def k0_dev8 (d0 : Dev nD) : Nat :=
  let c0_i32_60 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_59 : BitVec 32 := 2#32
  let v79 : BitVec 32 := Scalar.muli v2 c2_i32_59
  let v80 : BitVec 32 := Scalar.addi c0_i32_60 v79
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_61 : BitVec 32 := 1#32
  let v81 : BitVec 32 := Scalar.muli v6 c1_i32_61
  let v82 : BitVec 32 := Scalar.addi v80 v81
  v82.toNat
def k0_dev9 (d0 : Dev nD) : Nat :=
  let c0_i32_67 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_66 : BitVec 32 := 2#32
  let v89 : BitVec 32 := Scalar.muli v2 c2_i32_66
  let v90 : BitVec 32 := Scalar.addi c0_i32_67 v89
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_68 : BitVec 32 := 1#32
  let v91 : BitVec 32 := Scalar.muli v6 c1_i32_68
  let v92 : BitVec 32 := Scalar.addi v90 v91
  v92.toNat
def k0_dev10 (d0 : Dev nD) : Nat :=
  let c0_i32_74 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_73 : BitVec 32 := 2#32
  let v99 : BitVec 32 := Scalar.muli v2 c2_i32_73
  let v100 : BitVec 32 := Scalar.addi c0_i32_74 v99
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_75 : BitVec 32 := 1#32
  let v101 : BitVec 32 := Scalar.muli v6 c1_i32_75
  let v102 : BitVec 32 := Scalar.addi v100 v101
  v102.toNat
def k0_off1 (d0 : Dev nD) (c0_i32_90 : BitVec 32) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c256_i32 : BitVec 32 := 256#32
  let v8 : BitVec 32 := Scalar.muli v2 c256_i32
  let v121 : BitVec 32 := Scalar.addi v8 c0_i32_90
  let v122 : Index := Scalar.indexCast v121
  let c0_91 : Index := 0#32
  ![v122.toNat, 0]
def k0_dev11 (d0 : Dev nD) : Nat :=
  let c0_i32_97 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_96 : BitVec 32 := 2#32
  let v128 : BitVec 32 := Scalar.muli v7 c2_i32_96
  let v129 : BitVec 32 := Scalar.addi c0_i32_97 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_98 : BitVec 32 := 1#32
  let v130 : BitVec 32 := Scalar.muli v5 c1_i32_98
  let v131 : BitVec 32 := Scalar.addi v129 v130
  v131.toNat
def k0_dev12 (d0 : Dev nD) : Nat :=
  let c0_i32_120 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_119 : BitVec 32 := 2#32
  let v157 : BitVec 32 := Scalar.muli v7 c2_i32_119
  let v158 : BitVec 32 := Scalar.addi c0_i32_120 v157
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_121 : BitVec 32 := 1#32
  let v159 : BitVec 32 := Scalar.muli v5 c1_i32_121
  let v160 : BitVec 32 := Scalar.addi v158 v159
  v160.toNat
def k0_dev13 (d0 : Dev nD) : Nat :=
  let c0_i32_143 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_142 : BitVec 32 := 2#32
  let v186 : BitVec 32 := Scalar.muli v7 c2_i32_142
  let v187 : BitVec 32 := Scalar.addi c0_i32_143 v186
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_144 : BitVec 32 := 1#32
  let v188 : BitVec 32 := Scalar.muli v5 c1_i32_144
  let v189 : BitVec 32 := Scalar.addi v187 v188
  v189.toNat
def k0_dev14 (d0 : Dev nD) : Nat :=
  let c0_i32_166 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_165 : BitVec 32 := 2#32
  let v215 : BitVec 32 := Scalar.muli v7 c2_i32_165
  let v216 : BitVec 32 := Scalar.addi c0_i32_166 v215
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_167 : BitVec 32 := 1#32
  let v217 : BitVec 32 := Scalar.muli v5 c1_i32_167
  let v218 : BitVec 32 := Scalar.addi v216 v217
  v218.toNat
def k0_dev15 (d0 : Dev nD) : Nat :=
  let c0_i32_189 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_188 : BitVec 32 := 2#32
  let v244 : BitVec 32 := Scalar.muli v7 c2_i32_188
  let v245 : BitVec 32 := Scalar.addi c0_i32_189 v244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_190 : BitVec 32 := 1#32
  let v246 : BitVec 32 := Scalar.muli v5 c1_i32_190
  let v247 : BitVec 32 := Scalar.addi v245 v246
  v247.toNat
def k0_dev16 (d0 : Dev nD) : Nat :=
  let c0_i32_212 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_211 : BitVec 32 := 2#32
  let v273 : BitVec 32 := Scalar.muli v7 c2_i32_211
  let v274 : BitVec 32 := Scalar.addi c0_i32_212 v273
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_213 : BitVec 32 := 1#32
  let v275 : BitVec 32 := Scalar.muli v5 c1_i32_213
  let v276 : BitVec 32 := Scalar.addi v274 v275
  v276.toNat
def k0_dev17 (d0 : Dev nD) : Nat :=
  let c0_i32_235 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_234 : BitVec 32 := 2#32
  let v302 : BitVec 32 := Scalar.muli v7 c2_i32_234
  let v303 : BitVec 32 := Scalar.addi c0_i32_235 v302
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_236 : BitVec 32 := 1#32
  let v304 : BitVec 32 := Scalar.muli v5 c1_i32_236
  let v305 : BitVec 32 := Scalar.addi v303 v304
  v305.toNat
def k0_dev18 (d0 : Dev nD) : Nat :=
  let c0_i32_258 : BitVec 32 := 0#32
  let c1_i32_3 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_3 v2
  let c2_i32_257 : BitVec 32 := 2#32
  let v331 : BitVec 32 := Scalar.muli v7 c2_i32_257
  let v332 : BitVec 32 := Scalar.addi c0_i32_258 v331
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_259 : BitVec 32 := 1#32
  let v333 : BitVec 32 := Scalar.muli v5 c1_i32_259
  let v334 : BitVec 32 := Scalar.addi v332 v333
  v334.toNat
def k0_off2 (d0 : Dev nD) (c0_i32_275 : BitVec 32) : Fin 2 → Nat :=
  let c1_i32_4 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v9 : BitVec 32 := Scalar.subi c1_i32_4 v2
  let c256_i32_5 : BitVec 32 := 256#32
  let v10 : BitVec 32 := Scalar.muli v9 c256_i32_5
  let v351 : BitVec 32 := Scalar.addi v10 c0_i32_275
  let v352 : Index := Scalar.indexCast v351
  let c0_276 : Index := 0#32
  ![v352.toNat, 0]
abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S4096x512 : Shape := ⟨2, ![4096, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x4096, .bf16⟩
  | .hbm, ⟨1, _⟩ => ⟨S512x4096, .bf16⟩
  | .hbm, ⟨2, _⟩ => ⟨S4096x512, .bf16⟩
  | .hbm, ⟨3, _⟩ => ⟨S512x512, .f32⟩
  | .hbm, ⟨4, _⟩ => ⟨S512x512, .bf16⟩
  | .hbm, ⟨5, _⟩ => ⟨S512x512, .f32⟩
  | _, _ => ⟨S512x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Steps.lean ====
module

public import proofs.«01_k».proof.Proof.Gen.KernelIdeal
public import proofs.«01_k».proof.Proof.Gen.KernelIdeal.Skeleton
public import Idealize.ShloMosaic.Lib.Tactic

/-! # The kernel's body as four loops over the eight row blocks

The printed body repeats one step eight times, once per block of 32 rows, in four stretches: sending the partial
products along `y`, receiving and adding them and passing the sums along `x`, receiving the sums of the other half,
and waiting for the sends to have left. Here each step is written once, over the block's number, and the printed body
is shown to be the chain of these steps. -/

@[expose] public section

noncomputable section

namespace Cert.KernelIdeal.Steps

open Idealize.ShloMosaic Idealize.ShloMosaic.TcCoe
open Idealize.SL.Sem
open Cert.KernelIdeal.Gen

variable {F : FTy → Type} [FloatOps F]

/-- A program of the kernel that returns nothing. -/
abbrev Act (F : FTy → Type) [FloatOps F] : Type 1 := Prog (TpuEff nD τ sig (Elt F) Λ₀ .tc) PUnit

/-! ## The row blocks -/

/-- Block `k` of 32 rows lies within 256 rows. -/
theorem rows_inb (k : Fin 8) : ∀ a, (![32 * k.val, 0] : Fin 2 → Nat) a + S32x512.size a ≤ S256x512.size a := by
  revert k; decide +kernel

/-- Rows `32 k` to `32 k + 31` of a 256-row array. -/
abbrev rows (k : Fin 8) : Rect S256x512 := Rect.unit (s := S256x512) ![32 * k.val, 0] S32x512.size (rows_inb k)

/-- A row block covers whole words. -/
theorem rows_words (k : Fin 8) : (rows k).WholeWords (EltTy.packing .bf16) := by
  revert k; decide +kernel

/-- A row block covers whole packed rows. -/
theorem rows_packed (k : Fin 8) : (rows k).PackedRows (EltTy.packing .bf16) := by
  revert k; decide +kernel

/-- Entry `k` lies within the eight semaphores. -/
theorem one_inb (k : Fin 8) : ∀ a, (![k.val] : Fin 1 → Nat) a + S1.size a ≤ S8.size a := by
  revert k; decide +kernel

/-- A row block of 32 rows is cut from an array of 256 rows. -/
theorem rows_slices (k : Fin 8) : S256x512.Slices ![32 * k.val, 0] S32x512 := by
  revert k; decide +kernel

/-- Semaphore `k` of an array of eight. -/
abbrev pick (a : DmaSems sig S8) (k : Fin 8) : DmaSem sig :=
  ((a.slice (Rect.unit (s := S8) ![k.val] S1.size (one_inb k))).squeeze S_ squeezes_S1_S_).sem

/-- Row block `k` of a scratch array. -/
abbrev part (b : Memref sig .tc .vmem S256x512 .bf16) (k : Fin 8) : Memref sig .tc .vmem S32x512 .bf16 :=
  b.slice (rows k) (fun _ => rfl)

/-- The four scratch arrays: the own partial product, -/
abbrev mP : Memref sig .tc .vmem S256x512 .bf16 := Memref.whole cc0_scratch0
/-- the partial product received along `y`, -/
abbrev mY : Memref sig .tc .vmem S256x512 .bf16 := Memref.whole cc0_scratch1
/-- the own half of the sum, rounded, -/
abbrev mS : Memref sig .tc .vmem S256x512 .bf16 := Memref.whole cc0_scratch2
/-- the other half of the sum, received along `x`. -/
abbrev mX : Memref sig .tc .vmem S256x512 .bf16 := Memref.whole cc0_scratch3
/-- The result's staging buffer. -/
abbrev mO : Memref sig .tc .vmem S512x512 .f32 := Memref.whole cc0_stg2_0

/-- The chain of a step over the listed row blocks. -/
def chain (l : List (Fin 8)) (f : Fin 8 → Act F) (z : Act F) : Act F :=
  l.foldr (fun k r => f k >>= fun _ => r) z

/-- The eight row blocks in order. -/
abbrev all8 : List (Fin 8) := [0, 1, 2, 3, 4, 5, 6, 7]

/-! ## The steps -/

/-- The device across `y` as the body computes it. -/
abbrev dY (d : Dev nD) : Dev nD := ⟨k0_dev3 d, k0_dev3_lt d⟩
/-- The device across `x` as the body computes it. -/
abbrev dX (d : Dev nD) : Dev nD := ⟨k0_dev11 d, k0_dev11_lt d⟩

/-- Send row block `k` of the partial product to the device across `y`. -/
def sendY (d : Dev nD) (k : Fin 8) : Act F :=
  Prog.lift (.enqueueDma (part mP k) (.remote (Dev.tc (dY d)) (part mY k) (.dma (pick cc0_scratch4 k))) (.dma (pick cc0_scratch5 k))
    ((Memref.isWhole_whole _).wordExact_slice rfl _ (rows_words k)) ((Memref.isWhole_whole _).wordExact_slice rfl _ (rows_words k)) ⟨⟨rfl, Or.inl rfl⟩, trivial⟩)

/-- The sum of the own partial product's row block `k` with the received one. -/
def sumOf (v : FVec F S256x512 .f32) (k : Fin 8) (w : FVec F S32x512 .bf16) : FVec F S32x512 .f32 :=
  addf (extractStridedSlice S32x512 ![32 * k.val, 0] v (rows_slices k)) (extf .f32 w bitsLt_bf16_f32)

/-- The sum rounded to the format that is sent on. -/
def sumRnd (v : FVec F S256x512 .f32) (k : Fin 8) (w : FVec F S32x512 .bf16) : FVec F S32x512 .bf16 :=
  shapeCast S32x512 (truncf .bf16 (sumOf v k w) bitsLt_bf16_f32) shapeCasts_S32x512_S32x512

/-- Receive row block `k` along `y`, add it, store the sum and pass it, rounded, along `x`. -/
def addStep (d : Dev nD) (v : FVec F S256x512 .f32) (k : Fin 8) : Act F := do
  Prog.lift (.waitDma2 (pick cc0_scratch5 k) (part mP k) (part mY k)
    ((Memref.isWhole_whole _).wordExact_slice rfl _ (rows_words k)) ((Memref.isWhole_whole _).wordExact_slice rfl _ (rows_words k)))
  let w : Vec F S32x512 .bf16 ← Prog.lift (.load mY (rows k).toLoadRect (View.loadsAt_vmem h_S32x512))
  let _ : Vec F S32x512 .f32 ← Prog.lift (.load mO (Rect.unit (s := S512x512) (k0_off1 d (BitVec.ofNat 32 (32 * k.val))) S32x512.size (k0_off1_inb d k)).toLoadRect (View.loadsAt_vmem h_S32x512))
  Prog.lift (.store mO (Rect.unit (s := S512x512) (k0_off1 d (BitVec.ofNat 32 (32 * k.val))) S32x512.size (k0_off1_inb d k)) (sumOf v k w) Finset.univ (View.stores_vmem_bits_univ h_S32x512 rfl) (.inl rfl))
  let _ : Vec F S32x512 .bf16 ← Prog.lift (.load mS (rows k).toLoadRect (View.loadsAt_vmem h_S32x512))
  Prog.lift (.store mS (rows k) (sumRnd v k w) Finset.univ (View.stores_vmem h_S32x512 ((Memref.isWhole_whole _).storeExact_slice rfl _ (rows_packed k)) (fun _ => rfl)) (.inl rfl))
  Prog.lift (.enqueueDma (part mS k) (.remote (Dev.tc (dX d)) (part mX k) (.dma (pick cc0_scratch6 k))) (.dma (pick cc0_scratch7 k))
    ((Memref.isWhole_whole _).wordExact_slice rfl _ (rows_words k)) ((Memref.isWhole_whole _).wordExact_slice rfl _ (rows_words k)) ⟨⟨rfl, Or.inl rfl⟩, trivial⟩)

/-- Receive row block `k` of the other half along `x` and store it. -/
def takeX (d : Dev nD) (k : Fin 8) : Act F := do
  Prog.lift (.waitDma2 (pick cc0_scratch7 k) (part mS k) (part mX k)
    ((Memref.isWhole_whole _).wordExact_slice rfl _ (rows_words k)) ((Memref.isWhole_whole _).wordExact_slice rfl _ (rows_words k)))
  let w : Vec F S32x512 .bf16 ← Prog.lift (.load mX (rows k).toLoadRect (View.loadsAt_vmem h_S32x512))
  let _ : Vec F S32x512 .f32 ← Prog.lift (.load mO (Rect.unit (s := S512x512) (k0_off2 d (BitVec.ofNat 32 (32 * k.val))) S32x512.size (k0_off2_inb d k)).toLoadRect (View.loadsAt_vmem h_S32x512))
  Prog.lift (.store mO (Rect.unit (s := S512x512) (k0_off2 d (BitVec.ofNat 32 (32 * k.val))) S32x512.size (k0_off2_inb d k)) (extf .f32 w bitsLt_bf16_f32) Finset.univ (View.stores_vmem_bits_univ h_S32x512 rfl) (.inl rfl))

/-- Wait until both sends of row block `k` have left their sources. -/
def drain (k : Fin 8) : Act F := do
  Prog.lift (.waitDma2 (pick cc0_scratch4 k) (part mY k) (part mP k)
    ((Memref.isWhole_whole _).wordExact_slice rfl _ (rows_words k)) ((Memref.isWhole_whole _).wordExact_slice rfl _ (rows_words k)))
  Prog.lift (.waitDma2 (pick cc0_scratch6 k) (part mX k) (part mS k)
    ((Memref.isWhole_whole _).wordExact_slice rfl _ (rows_words k)) ((Memref.isWhole_whole _).wordExact_slice rfl _ (rows_words k)))

/-- The body after the barrier: the four stretches. -/
def loops (d : Dev nD) (v : FVec F S256x512 .f32) : Act F :=
  chain all8 (sendY d) <| chain all8 (addStep d v) <| chain all8 (takeX d) <| chain all8 drain <| pure ⟨⟩

/-- The body: the partial product computed and stored, the barrier with both neighbours, the four stretches. -/
def whole : Act F := do
  let d : Dev nD ← Prog.lift .deviceId
  let w : Vec F S512x2048 .bf16 ← Prog.lift (.load (Memref.whole cc0_stg1_0) (Rect.unit (s := S512x2048) ![0, 0] S512x2048.size inb_S512x2048_S512x2048_0_0).toLoadRect (View.loadsAt_vmem h_S512x2048))
  let y : Vec F S256x2048 .bf16 ← Prog.lift (.load (Memref.whole cc0_stg0_0) (Rect.unit (s := S256x2048) ![0, 0] S256x2048.size inb_S256x2048_S256x2048_0_0).toLoadRect (View.loadsAt_vmem h_S256x2048))
  let _ : Vec F S256x512 .bf16 ← Prog.lift (.load mP (Rect.unit (s := S256x512) ![0, 0] S256x512.size inb_S256x512_S256x512_0_0).toLoadRect (View.loadsAt_vmem h_S256x512))
  Prog.lift (.store mP (Rect.unit (s := S256x512) ![0, 0] S256x512.size inb_S256x512_S256x512_0_0) (k0_pay2 w y) Finset.univ (View.stores_vmem h_S256x512 ((Memref.isWhole_whole _).storeExact_slice rfl _ packedbf16_S256x512_S256x512_0_0) (fun _ => rfl)) (.inl rfl))
  semSignalWord (dY d) (sig.barrier 0 rfl) 1#32
  semSignalWord (dX d) (sig.barrier 0 rfl) 1#32
  semWaitWord (sig.barrier 0 rfl) 2#32
  loops d (k0_pay1 w y)

set_option maxRecDepth 65536 in
/-- The printed body, on the buffers it is called with, is the chain of the steps. -/
theorem body_eq : cc0_body (F := F) (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7 = whole := by
  rw [cc0_body_eq_skeleton]
  rfl

end Cert.KernelIdeal.Steps

end
-- ==== Proof.Proto.lean ====
module

public import proofs.«01_k».proof.Proof.Steps
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Pipeline.RegionTalk
public import Idealize.ShloMosaic.Lib.Pointwise.Reshape

/-! # The agreement between the four devices

Every device talks to two others: the one across `y`, with which it adds partial products, and the one across `x`, with
which it exchanges the finished halves. A link is named by a Boolean: `false` is the link across `y`, `true` the link
across `x`. This module fixes what every semaphore's counter stands for. -/

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps

variable {F : FTy → Type} [FloatOps F]

/-! ## The devices -/

/-- The device at the other end of a link. -/
abbrev nb : Bool → Dev nD → Dev nD := fun | false => dY | true => dX

/-- The other end's other end is the device itself. -/
theorem nb_nb : ∀ (a : Bool) (c : Dev nD), nb a (nb a c) = c := by decide +kernel

/-- A link pairs up the devices. -/
def across (a : Bool) : Dev nD ≃ Dev nD := ⟨nb a, nb a, nb_nb a, nb_nb a⟩

/-! ## The semaphores -/

/-- The semaphores of a link: counting what has left (`false`) and what has arrived (`true`). -/
abbrev semsOf : Bool → Bool → DmaSems sig S8
  | false, false => cc0_scratch4
  | false, true => cc0_scratch5
  | true, false => cc0_scratch6
  | true, true => cc0_scratch7

/-- A copy's number: its link, which of its two ends, its row block. -/
abbrev Copy : Type := (Bool × Bool) × Fin 8

/-- The semaphore of a copy's end. -/
abbrev osem : Copy → SemLoc sig := fun k => .dma (pick (semsOf k.1.1 k.1.2) k.2)

/-- No two ends share a semaphore. -/
theorem osem_inj : Function.Injective osem := by decide +kernel

/-- The barrier semaphore. -/
abbrev barS : SemLoc sig := .reg (sig.barrier 0 rfl)

theorem osem_ne_bar (k : Copy) : osem k ≠ barS := fun h => by cases h

/-- The device's barrier. -/
abbrev bar (c : Dev nD) : GSem nD τ sig := ((c : Thread nD τ), barS)
/-- The counter of a copy's end. -/
abbrev cell (k : Copy) (c : Dev nD) : GSem nD τ sig := ((c : Thread nD τ), osem k)
/-- Counts what has left along a link. -/
abbrev left (a : Bool) (k : Fin 8) (c : Dev nD) : GSem nD τ sig := cell ((a, false), k) c
/-- Counts what has arrived along a link. -/
abbrev came (a : Bool) (k : Fin 8) (c : Dev nD) : GSem nD τ sig := cell ((a, true), k) c

/-- Which end a semaphore counts for, if any. -/
def endOf (s : SemLoc sig) : Option Copy :=
  if h : ∃ k : Copy, osem k = s then some h.choose else none

theorem endOf_osem (k : Copy) : endOf (osem k) = some k := by
  unfold endOf
  have h : ∃ k' : Copy, osem k' = osem k := ⟨k, rfl⟩
  rw [dif_pos h]
  exact congrArg some (osem_inj h.choose_spec)

/-- What one copy of a row block adds to a counter. -/
def N : ℕ := (part mP 0).view.dmaCredit

theorem N_pos : 0 < N := View.dmaCredit_pos _ (by decide)

/-! ## What the buffers hold -/

variable (D : Dev nD → Vec F S256x2048 .bf16) (W : Dev nD → Vec F S512x2048 .bf16)

/-- The device's partial product, -/
def prod (c : Dev nD) : FVec F S256x512 .f32 := k0_pay1 (W c) (D c)
/-- rounded to be sent. -/
def rnd (c : Dev nD) : FVec F S256x512 .bf16 := k0_pay2 (W c) (D c)
/-- The sum of the own partial product and the one from across `y`, -/
def total (c : Dev nD) : FVec F S256x512 .f32 := addf (prod D W c) (extf .f32 (rnd D W (dY c)) bitsLt_bf16_f32)
/-- rounded to be sent. -/
def half (c : Dev nD) : FVec F S256x512 .bf16 := truncf .bf16 (total D W c) bitsLt_bf16_f32

/-- The row's place counted from the device's own half: the own half is places 0 to 255, the other half 256 to 511. -/
def place (c : Dev nD) (i : S512x512.Idx) : ℕ := ((i 0).val + 256 * (c.val / 2)) % 512

/-- The row within its half. -/
def inHalf (c : Dev nD) (i : S512x512.Idx) : S256x512.Idx :=
  fun | 0 => ⟨place c i % 256, Nat.mod_lt _ (by decide)⟩ | 1 => i 1

/-- The result: the own half from the own sum, the other half from the rounded sum of the device across `x`. -/
def result (c : Dev nD) : FVec F S512x512 .f32 := fun i =>
  if place c i < 256 then total D W c (inHalf c i) else extf .f32 (half D W (dX c)) bitsLt_bf16_f32 (inHalf c i)

/-! ## The ghost algebra -/

/-- The rounds of the staging cells beside the rounds of the kernel's own cells. -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

/-! ## The row blocks as resources -/

/-- Row block `k` of the own partial product's array, at contents `f`. -/
def ptP (c : Dev nD) (k : Fin 8) (f : Vec F S256x512 .bf16) : sProp 𝕄 :=
  (((c : Thread nD τ).loc cc0_scratch0) ↦[(part mP k).view.set]{fullShare} f)
/-- Row block `k` of the array received into along `y`. -/
def ptY (c : Dev nD) (k : Fin 8) (f : Vec F S256x512 .bf16) : sProp 𝕄 :=
  (((c : Thread nD τ).loc cc0_scratch1) ↦[(part mY k).view.set]{fullShare} f)
/-- Row block `k` of the rounded sum's array. -/
def ptS (c : Dev nD) (k : Fin 8) (f : Vec F S256x512 .bf16) : sProp 𝕄 :=
  (((c : Thread nD τ).loc cc0_scratch2) ↦[(part mS k).view.set]{fullShare} f)
/-- Row block `k` of the array received into along `x`. -/
def ptX (c : Dev nD) (k : Fin 8) (f : Vec F S256x512 .bf16) : sProp 𝕄 :=
  (((c : Thread nD τ).loc cc0_scratch3) ↦[(part mX k).view.set]{fullShare} f)

/-- A link's array that is sent from. -/
def srcAt : Bool → Dev nD → Fin 8 → Vec F S256x512 .bf16 → sProp 𝕄 := fun | false => ptP | true => ptS
/-- A link's array that is received into. -/
def dstAt : Bool → Dev nD → Fin 8 → Vec F S256x512 .bf16 → sProp 𝕄 := fun | false => ptY | true => ptX
/-- What a device sends along a link. -/
def sent : Bool → Dev nD → Vec F S256x512 .bf16 := fun | false => rnd D W | true => half D W

/-- A device's barrier unit hands the other end its receiving array and that its counters are open. -/
def barPay (a : Bool) (c : Dev nD) : sProp 𝕄 :=
  bigSep Finset.univ fun k : Fin 8 => iprop((∃ f, dstAt a (nb a c) k f) ∗ reached ER (came a k (nb a c)) 0)

/-- A copy's end hands out: the source, unchanged, where it left; what was sent, where it arrived. -/
def copyPay (k : Copy) (c : Dev nD) : sProp 𝕄 :=
  if k.1.2 then dstAt k.1.1 c k.2 (sent D W k.1.1 (nb k.1.1 c)) else srcAt k.1.1 c k.2 (sent D W k.1.1 c)

instance barPay_storable (a : Bool) (c : Dev nD) : BI.Storable (upEmb : UEmb _ 𝕄) (barPay a c) := by
  unfold barPay
  cases a <;> simp only [dstAt, ptY, ptX] <;> infer_instance

instance copyPay_storable (k : Copy) (c : Dev nD) : BI.Storable (upEmb : UEmb _ 𝕄) (copyPay D W k c) := by
  obtain ⟨⟨a, b⟩, k⟩ := k
  cases a <;> cases b <;> simp only [copyPay, dstAt, srcAt, ptP, ptY, ptS, ptX, if_true, if_false, Bool.false_eq_true] <;> infer_instance

/-! ## The schedule -/

/-- Every counter is used for one round. The barrier takes one unit from each neighbour; a copy's end takes the copy's
    credit once. -/
def Rd : Rounds.Schedule (GSem nD τ sig) Bool 𝕄 where
  duties g r := if r = 0 ∧ g.1.2 = .tc then (if g.2 = barS then Finset.univ else if (endOf g.2).isSome then {false} else ∅) else ∅
  unitless _ := False
  amount g _ _ := if g.2 = barS then 1 else N
  payload g _ d := if g.2 = barS then barPay d g.1.1 else match endOf g.2 with | some k => copyPay D W k g.1.1 | none => iprop(emp)
  amount_pos g _ _ _ := by
    by_cases h : g.2 = barS
    · rw [if_pos h]; exact Nat.one_pos
    · rw [if_neg h]; exact N_pos

instance payload_storable (g : GSem nD τ sig) (r : ℕ) (d : Bool) :
    BI.Storable (upEmb : UEmb _ 𝕄) ((Rd D W).payload g r d) := by
  show BI.Storable upEmb (if g.2 = barS then barPay d g.1.1 else match endOf g.2 with | some k => copyPay D W k g.1.1 | none => iprop(emp))
  split
  · infer_instance
  · split <;> infer_instance

section Facts

variable (c : Dev nD) (k : Copy)

theorem duties_bar : (Rd D W).duties (bar c) 0 = Finset.univ := by
  dsimp only [Rd]; rw [if_pos ⟨rfl, rfl⟩, if_pos rfl]
theorem duties_cell : (Rd D W).duties (cell k c) 0 = {false} := by
  dsimp only [Rd]; rw [if_pos ⟨rfl, rfl⟩, if_neg (osem_ne_bar k), endOf_osem]; rfl
theorem duties_later (g : GSem nD τ sig) : ∀ r, 1 ≤ r → (Rd D W).duties g r = ∅ := fun r hr => by
  dsimp only [Rd]; rw [if_neg fun h => by omega]
theorem amount_bar (d : Bool) : (Rd D W).amount (bar c) 0 d = 1 := by dsimp only [Rd]; exact if_pos rfl
theorem amount_cell (d : Bool) : (Rd D W).amount (cell k c) 0 d = N := by dsimp only [Rd]; exact if_neg (osem_ne_bar k)
theorem payload_bar (d : Bool) : (Rd D W).payload (bar c) 0 d = barPay d c := by dsimp only [Rd]; exact if_pos rfl
theorem payload_cell (d : Bool) : (Rd D W).payload (cell k c) 0 d = copyPay D W k c := by
  dsimp only [Rd]; rw [if_neg (osem_ne_bar k), endOf_osem]
theorem expect_bar : (Rd D W).expect (bar c) 0 = 2 := by
  unfold Schedule.expect Schedule.amountOf
  rw [duties_bar, Finset.sum_congr rfl fun d _ => amount_bar D W c d]; rfl
theorem expect_cell : (Rd D W).expect (cell k c) 0 = N := by
  unfold Schedule.expect Schedule.amountOf
  rw [duties_cell, Finset.sum_singleton, amount_cell]
theorem rest_bar : bigSep ((Rd D W).duties (bar c) 0 \ ∅) (fun d => (Rd D W).payload (bar c) 0 d)
    = iprop(barPay false c ∗ barPay true c) := by
  rw [Finset.sdiff_empty, duties_bar, bigSep_congr fun d _ => payload_bar D W c d]
  exact bigSep_univ_eq_bigSepL [false, true] (by decide) (by decide) fun d => barPay d c
theorem rest_cell : bigSep ((Rd D W).duties (cell k c) 0 \ ∅) (fun d => (Rd D W).payload (cell k c) 0 d) = copyPay D W k c := by
  rw [Finset.sdiff_empty, duties_cell, bigSep_singleton, payload_cell]

end Facts

/-! ## What each device owes at launch, and the order of waiting -/

/-- The arrivals a device has still to cause along a link, from row block `n` on. -/
def dues (a : Bool) (c : Dev nD) (n : ℕ) : CellTallies nD τ sig Unit :=
  ∑ k ∈ Finset.univ.filter fun k : Fin 8 => n ≤ k.val, tallyAt (came a k (nb a c)) () N

/-- Both links' arrivals and one barrier unit to each neighbour. -/
def O₀ (c : Dev nD) : CellTallies nD τ sig Unit :=
  (dues true c 0 + dues false c 0 + tallyAt (bar (nb true c)) () 1) + tallyAt (bar (nb false c)) () 1

theorem dues_step (a : Bool) (c : Dev nD) (k : Fin 8) :
    dues a c k.val = dues a c (k.val + 1) + tallyAt (came a k (nb a c)) () N := by
  unfold dues
  rw [show (Finset.univ.filter fun j : Fin 8 => k.val ≤ j.val) = insert k (Finset.univ.filter fun j : Fin 8 => k.val + 1 ≤ j.val) from by
    ext j
    simp only [Finset.mem_filter, Finset.mem_univ, true_and, Finset.mem_insert, Fin.ext_iff]
    omega]
  rw [Finset.sum_insert (by simp only [Finset.mem_filter, Finset.mem_univ, true_and]; omega), add_comm]

theorem dues_end (a : Bool) (c : Dev nD) : dues a c 8 = 0 := by
  unfold dues
  rw [Finset.filter_eq_empty_iff.mpr fun k _ => by omega, Finset.sum_empty]

/-- Where a device may owe. -/
def L (g : GSem nD τ sig) : Finset Unit := if g.1.2 = .tc then {()} else ∅

/-- The barrier comes before arrivals along `y`, these before arrivals along `x`; the rest is first. -/
def rank : Option Copy → ℕ := fun | some ((false, true), _) => 2 | some ((true, true), _) => 3 | _ => 0
def lv (g : GSem nD τ sig) (_ : Unit) : ℕ := if g.2 = barS then 1 else rank (endOf g.2)

theorem L_of_ne (g : GSem nD τ sig) (h : g.1.2 ≠ .tc) : L g = ∅ := if_neg h
theorem L_tc (c : Dev nD) (s : SemLoc sig) : L ((c : Thread nD τ), s) = {()} := if_pos rfl
theorem mem_L (c : Dev nD) (s : SemLoc sig) (u : Unit) : u ∈ L ((c : Thread nD τ), s) := by
  rw [L_tc]; exact Finset.mem_singleton_self _

theorem lv_bar (c : Dev nD) (u : Unit) : lv (bar c) u = 1 := if_pos rfl
theorem lv_cell (k : Copy) (c : Dev nD) (u : Unit) : lv (cell k c) u = rank (some k) := by
  unfold lv; rw [if_neg (osem_ne_bar k), endOf_osem]

/-- A single debt lies where it was made. -/
theorem tally_pos {g g' : GSem nD τ sig} {n : ℕ} {u : Unit} (h : 0 < (tallyAt g () n : CellTallies nD τ sig Unit) g' u) : g' = g := by
  rw [tallyAt_apply] at h
  by_contra hg
  rw [if_neg fun hh => hg hh.1] at h
  exact absurd h (Nat.lt_irrefl 0)

/-- A sum of debts is positive only where one of them is. -/
theorem add_pos' {A B : CellTallies nD τ sig Unit} {g : GSem nD τ sig} {u : Unit} (h : 0 < (A + B) g u) : 0 < A g u ∨ 0 < B g u := by
  rw [Pi.add_apply, Finsupp.add_apply] at h
  omega

theorem dues_pos {a : Bool} {c : Dev nD} {n : ℕ} {g : GSem nD τ sig} {u : Unit} (h : 0 < dues a c n g u) :
    ∃ k : Fin 8, g = came a k (nb a c) := by
  unfold dues at h
  rw [Finset.sum_apply, Finsupp.finset_sum_apply] at h
  obtain ⟨k, -, hk⟩ := Finset.exists_ne_zero_of_sum_ne_zero (Nat.pos_iff_ne_zero.mp h)
  exact ⟨k, tally_pos (Nat.pos_of_ne_zero hk)⟩

theorem O₀_pos {c : Dev nD} {g : GSem nD τ sig} {u : Unit} (h : 0 < O₀ c g u) :
    (∃ a k, g = came a k (nb a c)) ∨ ∃ a, g = bar (nb a c) := by
  unfold O₀ at h
  rcases add_pos' h with h | h
  · rcases add_pos' h with h | h
    · rcases add_pos' h with h | h
      · obtain ⟨k, hk⟩ := dues_pos h; exact .inl ⟨_, _, hk⟩
      · obtain ⟨k, hk⟩ := dues_pos h; exact .inl ⟨_, _, hk⟩
    · exact .inr ⟨true, tally_pos h⟩
  · exact .inr ⟨false, tally_pos h⟩

/-- The barrier may be waited at with all arrivals still owed. -/
theorem mayWait_bar (c : Dev nD) :
    (levAts L lv : sProp 𝕄) ⊢ MayWait (c : Thread nD τ) barS () (dues true c 0 + dues false c 0) :=
  MayOwe.of_cut (L := L) (lev := lv) 1 (fun p hp => by rw [Finset.mem_singleton.mp hp]; exact mem_L _ _ _)
    (fun g u hg => by
      rcases add_pos' hg with h | h <;> obtain ⟨k, rfl⟩ := dues_pos h <;> exact mem_L _ _ _)
    (fun p hp => by rw [Finset.mem_singleton.mp hp]; exact (lv_bar c ()).le)
    (fun g u hg => by
      rcases add_pos' hg with h | h
      · obtain ⟨k, rfl⟩ := dues_pos h; rw [lv_cell]; exact (by decide : (1 : ℕ) < 3)
      · obtain ⟨k, rfl⟩ := dues_pos h; rw [lv_cell]; exact (by decide : (1 : ℕ) < 2))

/-- An arrival along `y` may be waited for with arrivals along `x` still owed. -/
theorem mayWait_y (c : Dev nD) (k : Fin 8) (n : ℕ) :
    (levAts L lv : sProp 𝕄) ⊢ MayWait (c : Thread nD τ) (osem ((false, true), k)) () (dues true c n) :=
  MayOwe.of_cut (L := L) (lev := lv) 2 (fun p hp => by rw [Finset.mem_singleton.mp hp]; exact mem_L _ _ _)
    (fun g u hg => by obtain ⟨k, rfl⟩ := dues_pos hg; exact mem_L _ _ _)
    (fun p hp => by rw [Finset.mem_singleton.mp hp]; exact (lv_cell ((false, true), k) c ()).le)
    (fun g u hg => by obtain ⟨k, rfl⟩ := dues_pos hg; rw [lv_cell]; exact (by decide : (2 : ℕ) < 3))

end Cert.KernelIdeal.Proto

end
-- ==== Proof.Rows.lean ====
module

public import proofs.«01_k».proof.Proof.Proto
public import Idealize.ShloMosaic.Lib.Ring

/-! # What the steps read and write, row block by row block -/

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps

variable {F : FTy → Type} [FloatOps F]

local notation "𝕄" => MT nD τ sig Unit (Elt F) ℕ UU ℕ

/-! ## The eight row blocks make up the array -/

theorem mem_rows (k : Fin 8) (i : S256x512.Idx) : i ∈ (rows k).set ↔ 32 * k.val ≤ (i 0).val ∧ (i 0).val < 32 * k.val + 32 := by
  rw [Rect.mem_set_unit]
  constructor
  · intro h; exact h 0
  · intro h a
    match a with
    | 0 => exact h
    | 1 => exact ⟨Nat.zero_le _, by have := (i 1).isLt; exact (Nat.zero_add _).symm ▸ this⟩

theorem rows_disjoint (k k' : Fin 8) (h : k ≠ k') : Disjoint (rows k).set (rows k').set := by
  rw [Finset.disjoint_left]
  intro i h₁ h₂
  rw [mem_rows] at h₁ h₂
  exact h (Fin.ext (by omega))

theorem rows_cover : (Finset.univ : Finset (Fin 8)).biUnion (fun k => (rows k).set) = (Finset.univ : Finset S256x512.Idx) := by
  ext i
  simp only [Finset.mem_biUnion, Finset.mem_univ, true_and, iff_true]
  have hi : (i 0).val < 256 := (i 0).isLt
  exact ⟨⟨(i 0).val / 32, by omega⟩, (mem_rows _ _).mpr ⟨by dsimp only; omega, by dsimp only; omega⟩⟩

/-- The own partial product's array is its eight row blocks. -/
theorem split_P (c : Dev nD) (f : Vec F S256x512 .bf16) :
    ((((c : Thread nD τ).loc cc0_scratch0) ↦{fullShare} f : sProp 𝕄)) = bigSep Finset.univ fun k => ptP c k f := by
  rw [Ring.pointsTo_blocks (ℓ := (c : Thread nD τ).loc cc0_scratch0) (fun k : Fin 8 => (rows k).set) rows_disjoint rows_cover]
  exact bigSep_congr fun k _ => by unfold ptP; rw [show (part mP k).view.set = (rows k).set from View.set_slice_whole _ _]
/-- The array received into along `y` is its eight row blocks. -/
theorem split_Y (c : Dev nD) (f : Vec F S256x512 .bf16) :
    ((((c : Thread nD τ).loc cc0_scratch1) ↦{fullShare} f : sProp 𝕄)) = bigSep Finset.univ fun k => ptY c k f := by
  rw [Ring.pointsTo_blocks (ℓ := (c : Thread nD τ).loc cc0_scratch1) (fun k : Fin 8 => (rows k).set) rows_disjoint rows_cover]
  exact bigSep_congr fun k _ => by unfold ptY; rw [show (part mY k).view.set = (rows k).set from View.set_slice_whole _ _]
/-- The rounded sum's array is its eight row blocks. -/
theorem split_S (c : Dev nD) (f : Vec F S256x512 .bf16) :
    ((((c : Thread nD τ).loc cc0_scratch2) ↦{fullShare} f : sProp 𝕄)) = bigSep Finset.univ fun k => ptS c k f := by
  rw [Ring.pointsTo_blocks (ℓ := (c : Thread nD τ).loc cc0_scratch2) (fun k : Fin 8 => (rows k).set) rows_disjoint rows_cover]
  exact bigSep_congr fun k _ => by unfold ptS; rw [show (part mS k).view.set = (rows k).set from View.set_slice_whole _ _]
/-- The array received into along `x` is its eight row blocks. -/
theorem split_X (c : Dev nD) (f : Vec F S256x512 .bf16) :
    ((((c : Thread nD τ).loc cc0_scratch3) ↦{fullShare} f : sProp 𝕄)) = bigSep Finset.univ fun k => ptX c k f := by
  rw [Ring.pointsTo_blocks (ℓ := (c : Thread nD τ).loc cc0_scratch3) (fun k : Fin 8 => (rows k).set) rows_disjoint rows_cover]
  exact bigSep_congr fun k _ => by unfold ptX; rw [show (part mX k).view.set = (rows k).set from View.set_slice_whole _ _]

/-! ## Copies and stores of a row block -/

/-- A row block of the partial product, landed in the array received into along `y`. -/
theorem land_Y (c : Dev nD) (k : Fin 8) (f g : Vec F S256x512 .bf16) :
    (((c : Thread nD τ).loc cc0_scratch1) ↦[(part mY k).view.set]{fullShare} ((part mY k).view.write (Elt F) f ((part mP k).view.read (Elt F) g) Finset.univ) : sProp 𝕄)
      = ptY c k g := by
  unfold ptY
  refine pointsTo_congr fun i hi => ?_
  obtain ⟨x, -, rfl⟩ := Finset.mem_map.mp hi
  exact View.write_emb_of_mem (v := (part mY k).view) (Val := Elt F) f _ (Finset.mem_univ x)

/-- A row block of the rounded sum, landed in the array received into along `x`. -/
theorem land_X (c : Dev nD) (k : Fin 8) (f g : Vec F S256x512 .bf16) :
    (((c : Thread nD τ).loc cc0_scratch3) ↦[(part mX k).view.set]{fullShare} ((part mX k).view.write (Elt F) f ((part mS k).view.read (Elt F) g) Finset.univ) : sProp 𝕄)
      = ptX c k g := by
  unfold ptX
  refine pointsTo_congr fun i hi => ?_
  obtain ⟨x, -, rfl⟩ := Finset.mem_map.mp hi
  exact View.write_emb_of_mem (v := (part mX k).view) (Val := Elt F) f _ (Finset.mem_univ x)

/-- A store of a row block of the rounded sum. -/
theorem store_S (c : Dev nD) (k : Fin 8) (f g : Vec F S256x512 .bf16) (w : Vec F S32x512 .bf16) (h : ∀ j, w j = g ((rows k).emb j)) :
    ((mS.access (rows k)).loc (c : Thread nD τ) ↦[(mS.access (rows k)).set]{fullShare} ((mS.access (rows k)).write (Elt F) f w Finset.univ) : sProp 𝕄)
      = ptS c k g := by
  unfold ptS
  refine pointsTo_congr fun i hi => ?_
  obtain ⟨x, -, rfl⟩ := Finset.mem_map.mp hi
  exact (View.write_emb_of_mem (v := mS.access (rows k)) (Val := Elt F) f w (Finset.mem_univ x)).trans (h x)

/-! ## The sums -/

variable (D : Dev nD → Vec F S256x2048 .bf16) (W : Dev nD → Vec F S512x2048 .bf16)

/-- The step's sum is the row block of the whole sum, -/
theorem sumOf_eq (c : Dev nD) (k : Fin 8) (j : S32x512.Idx) :
    sumOf (prod D W c) k (fun i => rnd D W (dY c) ((rows k).emb i)) j = total D W c ((rows k).emb j) := by
  have e : extractStridedSlice S32x512 ![32 * k.val, 0] (prod D W c) (rows_slices k) j = prod D W c ((rows k).emb j) :=
    extractStridedSlice_apply _ _ _ _ _ fun a => by rw [Rect.emb_apply, Rect.off_unit, Rect.stride_unit, Nat.one_mul]; rfl
  exact congrArg (fun t => FloatOps.addf t (extf .f32 (rnd D W (dY c)) bitsLt_bf16_f32 ((rows k).emb j))) e

/-- and likewise rounded. -/
theorem sumRnd_eq (c : Dev nD) (k : Fin 8) (j : S32x512.Idx) :
    sumRnd (prod D W c) k (fun i => rnd D W (dY c) ((rows k).emb i)) j = half D W c ((rows k).emb j) := by
  unfold sumRnd half
  rw [shapeCast_self]
  exact congrArg (fun t : F .f32 => truncf (s := S32x512) .bf16 (fun _ => t) bitsLt_bf16_f32 j) (sumOf_eq D W c k j)

/-! ## The result, row by row -/

/-- The first `32 n` places of the result are in. -/
def Upto (c : Dev nD) (n : ℕ) (b : Vec F S512x512 .f32) : Prop := ∀ i, place c i < 32 * n → b i = result D W c i

theorem Upto.zero (c : Dev nD) (b : Vec F S512x512 .f32) : Upto D W c 0 b := fun i h => absurd h (by omega)

theorem Upto.all {c : Dev nD} {b : Vec F S512x512 .f32} (h : Upto D W c 16 b) : b = result D W c :=
  funext fun i => h i (by unfold place; exact Nat.mod_lt _ (by decide))

/-- A store of the next 32 places. -/
theorem Upto.store {c : Dev nD} {n : ℕ} {b : Vec F S512x512 .f32} (hb : Upto D W c n b) (off : Fin 2 → ℕ)
    (inb : ∀ a, off a + S32x512.size a ≤ S512x512.size a) (w : Vec F S32x512 .f32)
    (h0 : ∀ i : S512x512.Idx, 32 * n ≤ place c i → place c i < 32 * n + 32 → off 0 ≤ (i 0).val ∧ (i 0).val < off 0 + 32) (h1 : off 1 = 0)
    (hw : ∀ j, w j = result D W c ((Rect.unit (s := S512x512) off S32x512.size inb).emb j)) :
    Upto D W c (n + 1) ((mO.access (Rect.unit (s := S512x512) off S32x512.size inb)).write (Elt F) b w Finset.univ) := by
  intro i hi
  by_cases hm : i ∈ (Rect.unit (s := S512x512) off S32x512.size inb).set
  · rw [← Rect.map_emb_univ] at hm
    obtain ⟨x, -, rfl⟩ := Finset.mem_map.mp hm
    exact (View.write_emb_of_mem (v := mO.access (Rect.unit (s := S512x512) off S32x512.size inb)) (Val := Elt F) b w (Finset.mem_univ x)).trans (hw x)
  · refine (View.write_of_not_mem (v := mO.access (Rect.unit (s := S512x512) off S32x512.size inb)) (Val := Elt F) b w Finset.univ ?_).trans (hb i ?_)
    · intro h
      apply hm
      rw [← Rect.map_emb_univ]
      exact h
    · by_contra hn
      apply hm
      rw [Rect.mem_set_unit]
      intro a
      match a with
      | 0 => exact h0 i (by omega) (by omega)
      | 1 => rw [h1]; exact ⟨Nat.zero_le _, by have := (i 1).isLt; exact (Nat.zero_add _).symm ▸ this⟩

/-- Where the own half's row block goes. -/
theorem place_own (c : Dev nD) (k : Fin 8) (i : S512x512.Idx) (x : ℕ) (hx : x < 32) (h : (i 0).val = 256 * (c.val / 2) + 32 * k.val + x) :
    place c i = 32 * k.val + x := by
  unfold place
  have hc : c.val < 4 := c.isLt
  have hk := k.isLt
  rw [h]
  rcases (by omega : c.val / 2 = 0 ∨ c.val / 2 = 1) with e | e <;> rw [e] <;> omega

/-- Where the other half's row block goes. -/
theorem place_other (c : Dev nD) (k : Fin 8) (i : S512x512.Idx) (x : ℕ) (hx : x < 32) (h : (i 0).val = (32 * k.val + 256) - 256 * (c.val / 2) + x) :
    place c i = 32 * (8 + k.val) + x := by
  unfold place
  have hc : c.val < 4 := c.isLt
  have hk := k.isLt
  rw [h]
  rcases (by omega : c.val / 2 = 0 ∨ c.val / 2 = 1) with e | e <;> rw [e] <;> omega

/-- The rows at the given places of the own half. -/
theorem rows_own (c : Dev nD) (k : Fin 8) (i : S512x512.Idx) (h : 32 * k.val ≤ place c i) (h' : place c i < 32 * k.val + 32) :
    256 * (c.val / 2) + 32 * k.val ≤ (i 0).val ∧ (i 0).val < 256 * (c.val / 2) + 32 * k.val + 32 := by
  unfold place at h h'
  have hc : c.val < 4 := c.isLt
  have hk := k.isLt
  have hi : (i 0).val < 512 := (i 0).isLt
  rcases (by omega : c.val / 2 = 0 ∨ c.val / 2 = 1) with e | e <;> rw [e] at h h' ⊢ <;> omega

/-- The rows at the given places of the other half. -/
theorem rows_other (c : Dev nD) (k : Fin 8) (i : S512x512.Idx) (h : 32 * (8 + k.val) ≤ place c i) (h' : place c i < 32 * (8 + k.val) + 32) :
    (32 * k.val + 256) - 256 * (c.val / 2) ≤ (i 0).val ∧ (i 0).val < (32 * k.val + 256) - 256 * (c.val / 2) + 32 := by
  unfold place at h h'
  have hc : c.val < 4 := c.isLt
  have hk := k.isLt
  have hi : (i 0).val < 512 := (i 0).isLt
  rcases (by omega : c.val / 2 = 0 ∨ c.val / 2 = 1) with e | e <;> rw [e] at h h' ⊢ <;> omega

/-- A row in its half is the row of its row block. -/
theorem inHalf_eq (c : Dev nD) (k : Fin 8) (j : S32x512.Idx) (i : S512x512.Idx) (h0 : place c i % 256 = 32 * k.val + (j 0).val)
    (h1 : (i 1).val = (j 1).val) : inHalf c i = (rows k).emb j := by
  funext a
  refine Fin.ext ?_
  rw [Rect.emb_apply, Rect.off_unit, Rect.stride_unit, Nat.one_mul]
  match a with
  | 0 => exact h0
  | 1 => exact h1.trans (Nat.zero_add _).symm

/-- The step over the own half stores the next places of the result. -/
theorem Upto.own {c : Dev nD} {k : Fin 8} {b : Vec F S512x512 .f32} (hb : Upto D W c k.val b) :
    Upto D W c (k.val + 1) ((mO.access (Rect.unit (s := S512x512) (k0_off1 c (BitVec.ofNat 32 (32 * k.val))) S32x512.size (k0_off1_inb c k))).write (Elt F) b
      (sumOf (prod D W c) k (fun i => rnd D W (dY c) ((rows k).emb i))) Finset.univ) := by
  refine hb.store D W _ _ _ ?_ ?_ ?_
  · intro i h h'
    rw [k0_off1_eq]
    exact rows_own c k i h h'
  · rw [k0_off1_eq]; rfl
  · intro j
    rw [sumOf_eq]
    have e0 : (((Rect.unit (s := S512x512) (k0_off1 c (BitVec.ofNat 32 (32 * k.val))) S32x512.size (k0_off1_inb c k)).emb j) 0).val = 256 * (c.val / 2) + 32 * k.val + (j 0).val := by
      rw [Rect.emb_apply, Rect.off_unit, Rect.stride_unit, Nat.one_mul]
      exact congrArg (· + (j 0).val) (congrFun (k0_off1_eq c k) 0)
    have e1 : (((Rect.unit (s := S512x512) (k0_off1 c (BitVec.ofNat 32 (32 * k.val))) S32x512.size (k0_off1_inb c k)).emb j) 1).val = (j 1).val := by
      rw [Rect.emb_apply, Rect.off_unit, Rect.stride_unit, Nat.one_mul]
      exact (congrArg (· + (j 1).val) (congrFun (k0_off1_eq c k) 1)).trans (Nat.zero_add _)
    have hj : (j 0).val < 32 := (j 0).isLt
    have hk := k.isLt
    have hp := place_own c k _ (j 0).val hj e0
    unfold result
    rw [if_pos (by rw [hp]; omega), inHalf_eq c k j _ (by rw [hp]; omega) e1]

/-- The step over the other half likewise. -/
theorem Upto.other {c : Dev nD} {k : Fin 8} {b : Vec F S512x512 .f32} (hb : Upto D W c (8 + k.val) b) :
    Upto D W c (8 + k.val + 1) ((mO.access (Rect.unit (s := S512x512) (k0_off2 c (BitVec.ofNat 32 (32 * k.val))) S32x512.size (k0_off2_inb c k))).write (Elt F) b
      (extf .f32 (fun i : S32x512.Idx => half D W (dX c) ((rows k).emb i)) bitsLt_bf16_f32) Finset.univ) := by
  refine hb.store D W _ _ _ ?_ ?_ ?_
  · intro i h h'
    rw [k0_off2_eq]
    exact rows_other c k i h h'
  · rw [k0_off2_eq]; rfl
  · intro j
    have e0 : (((Rect.unit (s := S512x512) (k0_off2 c (BitVec.ofNat 32 (32 * k.val))) S32x512.size (k0_off2_inb c k)).emb j) 0).val = (32 * k.val + 256) - 256 * (c.val / 2) + (j 0).val := by
      rw [Rect.emb_apply, Rect.off_unit, Rect.stride_unit, Nat.one_mul]
      exact congrArg (· + (j 0).val) (congrFun (k0_off2_eq c k) 0)
    have e1 : (((Rect.unit (s := S512x512) (k0_off2 c (BitVec.ofNat 32 (32 * k.val))) S32x512.size (k0_off2_inb c k)).emb j) 1).val = (j 1).val := by
      rw [Rect.emb_apply, Rect.off_unit, Rect.stride_unit, Nat.one_mul]
      exact (congrArg (· + (j 1).val) (congrFun (k0_off2_eq c k) 1)).trans (Nat.zero_add _)
    have hj : (j 0).val < 32 := (j 0).isLt
    have hk := k.isLt
    have hp := place_other c k _ (j 0).val hj e0
    unfold result
    rw [if_neg (by rw [hp]; omega)]
    have hi := inHalf_eq c k j _ (by rw [hp]; omega) e1
    exact congrArg (extf .f32 (half D W (dX c)) bitsLt_bf16_f32) hi.symm

end Cert.KernelIdeal.Proto

end
-- ==== Proof.Body.lean ====
module

public import proofs.«01_k».proof.Proof.Rows

/-! # The four stretches of the body

Each stretch repeats one step over the eight row blocks. A step is proved once, for every row block, and `wp_chain` puts the
eight together. -/

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps

variable {F : FTy → Type} [FloatOps F]

local notation "𝕄" => MT nD τ sig Unit (Elt F) ℕ UU ℕ

abbrev 𝒱₀ : Variants := Variants.none

/-! ## What every device may consult -/

def barEmb : Dev nD ↪ GSem nD τ sig := ⟨bar, fun _ _ h => congrArg (fun g : GSem nD τ sig => g.1.1) h⟩
def cellEmb : Dev nD × Copy ↪ GSem nD τ sig :=
  ⟨fun x => cell x.2 x.1, fun _ _ h => Prod.ext (congrArg (fun g : GSem nD τ sig => g.1.1) h) (osem_inj (congrArg Prod.snd h))⟩

/-- All barriers, and the counters of all copies' ends. -/
abbrev barCells : Finset (GSem nD τ sig) := Finset.univ.map barEmb
abbrev endCells : Finset (GSem nD τ sig) := Finset.univ.map cellEmb

section Run

variable (D : Dev nD → Vec F S256x2048 .bf16) (W : Dev nD → Vec F S512x2048 .bf16) (κ : GSem nD τ sig → ℕ)

/-- Every counter follows the schedule, and the order of waiting is fixed. -/
def know : sProp 𝕄 := iprop((bigSep (barCells ∪ endCells) fun g => cellInv ER (Rd D W) (κ g) g) ∗ levAts L lv)

instance know_persistent : BI.Persistent (know D W κ) := by unfold know; infer_instance

theorem inv_at {g : GSem nD τ sig} (hg : g ∈ (barCells ∪ endCells : Finset (GSem nD τ sig))) :
    (bigSep (barCells ∪ endCells) fun g => (cellInv ER (Rd D W) (κ g) g : sProp 𝕄)) ⊢ cellInv ER (Rd D W) (κ g) g :=
  bigSep_elim hg

theorem know_bar (c : Dev nD) : know D W κ ⊢ cellInv ER (Rd D W) (κ (bar c)) (bar c) := by
  unfold know
  iintro ⟨H, -⟩
  iapply (inv_at D W κ (g := bar c) (Finset.mem_union_left endCells (Finset.mem_map_of_mem barEmb (Finset.mem_univ c))))
  iexact H

theorem know_cell (k : Copy) (c : Dev nD) : know D W κ ⊢ cellInv ER (Rd D W) (κ (cell k c)) (cell k c) := by
  unfold know
  iintro ⟨H, -⟩
  iapply (inv_at D W κ (g := cell k c) (Finset.mem_union_right barCells (Finset.mem_map_of_mem cellEmb (Finset.mem_univ (c, k)))))
  iexact H

theorem know_lev : know D W κ ⊢ levAts L lv := by
  unfold know
  iintro ⟨-, H⟩; iexact H

/-! ## Eight steps in a row -/

/-- One resource for every listed row block. -/
def each (l : List (Fin 8)) (Φ : Fin 8 → sProp 𝕄) : sProp 𝕄 := l.foldr (fun k r => iprop(Φ k ∗ r)) iprop(emp)

theorem each_all8 (Φ : Fin 8 → sProp 𝕄) : each all8 Φ = bigSep Finset.univ Φ := by
  rw [bigSep_univ_eq_bigSepL all8 (by decide) (by decide) Φ]
  simp only [each, all8, List.foldr, bigSepL_cons_cons, bigSepL_singleton]
  rw [show iprop(Φ 7 ∗ emp) = Φ 7 from BI.equiv_iff.mp sep_emp]
  rfl

/-- The list counts up from `n`. -/
def Up : List (Fin 8) → ℕ → Prop
  | [], _ => True
  | k :: l, n => k.val = n ∧ Up l (n + 1)

variable (c : Dev nD)

theorem wp_list (P : sProp 𝕄) [BI.Persistent P] (A B : Fin 8 → sProp 𝕄) (T : ℕ → sProp 𝕄) (f : Fin 8 → Act F) (z : Act F) (Q : PUnit → sProp 𝕄)
    (hs : ∀ k, iprop(P ∗ A k ∗ T k.val) ⊢ wp frame (wpE (defs₀ (F := F)) 𝒱₀ (c : Thread nD τ) none) Set.univ (f k) (fun _ => iprop(B k ∗ T (k.val + 1)))) :
    ∀ (l : List (Fin 8)) (n : ℕ), Up l n →
      iprop(P ∗ each l A ∗ T n ∗ ((each l B ∗ T (n + l.length)) -∗ wp frame (wpE (defs₀ (F := F)) 𝒱₀ (c : Thread nD τ) none) Set.univ (z) (Q))) ⊢ wp frame (wpE (defs₀ (F := F)) 𝒱₀ (c : Thread nD τ) none) Set.univ (chain l f z) (Q)
  | [], n, _ => by
    show iprop(P ∗ emp ∗ T n ∗ ((emp ∗ T n) -∗ wp frame (wpE (defs₀ (F := F)) 𝒱₀ (c : Thread nD τ) none) Set.univ (z) (Q))) ⊢ wp frame (wpE (defs₀ (F := F)) 𝒱₀ (c : Thread nD τ) none) Set.univ (z) (Q)
    iintro ⟨-, -, HT, Hk⟩
    iapply Hk
    isplitr; · iempintro
    iexact HT
  | k :: l, n, h => by
    obtain ⟨rfl, h⟩ := h
    show iprop(P ∗ (A k ∗ each l A) ∗ T k.val ∗ (((B k ∗ each l B) ∗ T (k.val + (l.length + 1))) -∗ wp frame (wpE (defs₀ (F := F)) 𝒱₀ (c : Thread nD τ) none) Set.univ (z) (Q))) ⊢ wp frame (wpE (defs₀ (F := F)) 𝒱₀ (c : Thread nD τ) none) Set.univ (f k >>= fun _ => chain l f z) (Q)
    rw [wp_bind]
    iintro ⟨#HP, ⟨HA, Hl⟩, HT, Hk⟩
    iapply wp_wand_r
    isplitl [HA HT]
    · iapply (hs k)
      isplitr; · iexact HP
      isplitl [HA] <;> iassumption
    iintro %_ ⟨HB, HT⟩
    iapply (wp_list P A B T f z Q hs l (k.val + 1) h)
    isplitr; · iexact HP
    isplitl [Hl]; · iexact Hl
    isplitl [HT]; · iexact HT
    iintro ⟨HBl, HT⟩
    iapply Hk
    isplitl [HB HBl]
    · isplitl [HB] <;> iassumption
    rw [show k.val + (l.length + 1) = k.val + 1 + l.length from by omega]
    iexact HT

/-- A step that uses up `A k`, leaves `B k` and takes `T k` to `T (k + 1)`, over all row blocks. -/
theorem wp_chain (P : sProp 𝕄) [BI.Persistent P] (A B : Fin 8 → sProp 𝕄) (T : ℕ → sProp 𝕄) (f : Fin 8 → Act F) (z : Act F) (Q : PUnit → sProp 𝕄)
    (hs : ∀ k, iprop(P ∗ A k ∗ T k.val) ⊢ wp frame (wpE (defs₀ (F := F)) 𝒱₀ (c : Thread nD τ) none) Set.univ (f k) (fun _ => iprop(B k ∗ T (k.val + 1)))) :
    iprop(P ∗ bigSep Finset.univ A ∗ T 0 ∗ ((bigSep Finset.univ B ∗ T 8) -∗ wp frame (wpE (defs₀ (F := F)) 𝒱₀ (c : Thread nD τ) none) Set.univ (z) (Q))) ⊢ wp frame (wpE (defs₀ (F := F)) 𝒱₀ (c : Thread nD τ) none) Set.univ (chain all8 f z) (Q) := by
  rw [← each_all8 A, ← each_all8 B]
  exact wp_list c P A B T f z Q hs all8 0 ⟨rfl, rfl, rfl, rfl, rfl, rfl, rfl, rfl, trivial⟩

/-! ## The steps -/

theorem copyPay_left (a : Bool) (k : Fin 8) (c : Dev nD) : copyPay D W ((a, false), k) c = srcAt a c k (sent D W a c) := rfl
theorem copyPay_came (a : Bool) (k : Fin 8) (c : Dev nD) : copyPay D W ((a, true), k) c = dstAt a c k (sent D W a (nb a c)) := rfl

theorem cell_mem (k : Copy) (c : Dev nD) : false ∈ (Rd D W).duties (cell k c) 0 := by
  rw [duties_cell]; exact Finset.mem_singleton_self _

/-- The counter of a finished copy's end, back at zero. -/
theorem finish (k : Copy) (c : Dev nD) :
    iprop(know D W κ ∗ atPos ER (cell k c) (0 + 1) ∅ 0) ⊢ (|={Set.univ}=> semVal (cell k c) 0 : sProp 𝕄) :=
  (sep_mono_left (know_cell D W κ k c)).trans
    (Rounds.cell_close ER (Rd D W) (Set.mem_univ _) id (duties_later D W (cell k c)))

/-- What a send along `y` uses. -/
def preY (k : Fin 8) : sProp 𝕄 :=
  iprop(ptP c k (rnd D W c) ∗ (∃ f, ptY (nb false c) k f) ∗ reached ER (came false k (nb false c)) 0
    ∗ dutyTok ER (left false k c) 0 false ∗ reached ER (left false k c) 0 ∗ dutyTok ER (came false k (nb false c)) 0 false)

/-- The debts during the first stretch. -/
def owe1 (n : ℕ) : sProp 𝕄 := iprop(∃ V, owes (c : Thread nD τ) (dues true c 0 + dues false c n) V)

/-- A send along `y`: the row block is on its way, and one arrival less is owed. -/
theorem step_sendY (k : Fin 8) : iprop(know D W κ ∗ preY D W c k ∗ owe1 c k.val)
    ⊢ wp frame (wpE (defs₀ (F := F)) 𝒱₀ (c : Thread nD τ) none) Set.univ (sendY c k) (fun _ => iprop(cred (tallyAt (left false k c) () N) ∗ owe1 c (k.val + 1))) := by
  unfold preY owe1 sendY Prog.lift
  iintro ⟨#HK, ⟨HP, ⟨%f, HY⟩, #HrV, HtL, #HrL, HtV⟩, ⟨%V, HO⟩⟩
  unfold ptP ptY
  iapply (Rounds.wp_send_pointsTo 𝒱₀ ER (Rd D W) (c : Thread nD τ) none (c' := (nb false c : Thread nD τ)) (src := part mP k) (dst := part mY k)
      (sS := osem ((false, false), k)) (sem := osem ((false, true), k)) (q := fullShare) (fs := rnd D W c) (fd := f)
      (κ₁ := κ (left false k c)) (κ₂ := κ (came false k (nb false c))) (r₁ := 0) (r₂ := 0) (d₁ := false) (d₂ := false)
      (cell_mem D W _ c) (cell_mem D W _ (nb false c)) () () N rfl (amount_cell D W c _ false) (amount_cell D W (nb false c) _ false)
      (O₀ := dues true c 0 + dues false c k.val) (dues true c 0 + dues false c (k.val + 1)) (by rw [dues_step false c k, add_assoc]) (W := V)
      (by rw [payload_cell, copyPay_left]; exact BI.Entails.refl _)
      (by rw [payload_cell, copyPay_came, nb_nb]; exact Entails.of_eq (land_Y (nb false c) k f (rnd D W c)))) $$ [HP HY HO HtL HtV]
  · isplitr; · iapply (know_cell D W κ ((false, false), k) c); iexact HK
    isplitr; · iapply (know_cell D W κ ((false, true), k) (nb false c)); iexact HK
    isplitl [HP]; · iexact HP
    isplitl [HY]; · iexact HY
    isplitl [HO]; · iexact HO
    isplitl [HtL]; · iexact HtL
    isplitr; · iexact HrL
    isplitl [HtV]; · iexact HtV
    iexact HrV
  iintro ⟨Hc, HO⟩
  rw [wp_ret]; imodintro
  isplitl [Hc]; · iexact Hc
  iexists V; iexact HO

/-- What a load of a received row block reads. -/
theorem read_Y (k : Fin 8) (f : Vec F S256x512 .bf16) : (mY.access (rows k)).read (Elt F) f = fun i => f ((rows k).emb i) := rfl
theorem read_X (k : Fin 8) (f : Vec F S256x512 .bf16) : (mX.access (rows k)).read (Elt F) f = fun i => f ((rows k).emb i) := rfl

/-- The store of a row block of the rounded sum. -/
theorem wp_store_S (k : Fin 8) {hx : (mS.access (rows k)).Stores Finset.univ} {hm} {r : PUnit → Act F} {Q : PUnit → sProp 𝕄}
    (f g : Vec F S256x512 .bf16) (w : Vec F S32x512 .bf16) (h : ∀ j, w j = g ((rows k).emb j)) :
    ptS c k f ⊢ iprop((ptS c k g -∗ wp frame (wpE (defs₀ (F := F)) 𝒱₀ (c : Thread nD τ) none) Set.univ (r ⟨⟩) (Q)) -∗ wp frame (wpE (defs₀ (F := F)) 𝒱₀ (c : Thread nD τ) none) Set.univ (Prog.op (.store mS (rows k) w Finset.univ hx hm) r) (Q)) := by
  rw [← store_S c k f g w h]
  exact wp_store 𝒱₀ (c : Thread nD τ) none Set.univ (m := mS) (r := rows k) (Mk := Finset.univ) (S := (mS.access (rows k)).set) (Finset.Subset.refl _)

/-- What the step that adds uses. -/
def preAdd (k : Fin 8) : sProp 𝕄 :=
  iprop(cred (tallyAt (came false k c) () N) ∗ atPos ER (came false k c) 0 ∅ 0 ∗ (∃ f, ptS c k f) ∗ (∃ f, ptX (nb true c) k f)
    ∗ reached ER (came true k (nb true c)) 0
    ∗ dutyTok ER (left true k c) 0 false ∗ reached ER (left true k c) 0 ∗ dutyTok ER (came true k (nb true c)) 0 false)

/-- What it leaves. -/
def postAdd (k : Fin 8) : sProp 𝕄 :=
  iprop(semVal (came false k c) 0 ∗ ptY c k (rnd D W (nb false c)) ∗ cred (tallyAt (left true k c) () N))

/-- The result's staging buffer with the first `32 n` places in. -/
def outUpto (n : ℕ) : sProp 𝕄 := iprop(∃ b, ((c : Thread nD τ).loc cc0_stg2_0 ↦{fullShare} b) ∗ ⌜Upto D W c n b⌝)

/-- The debts during the second stretch, and the result so far. -/
def owe2 (n : ℕ) : sProp 𝕄 := iprop((∃ V, owes (c : Thread nD τ) (dues true c n) V) ∗ outUpto D W c n)

/-- The step that adds: the received row block is added, the sum is in the result and on its way along `x`. -/
theorem step_add (k : Fin 8) : iprop(know D W κ ∗ preAdd c k ∗ owe2 D W c k.val)
    ⊢ wp frame (wpE (defs₀ (F := F)) 𝒱₀ (c : Thread nD τ) none) Set.univ (addStep c (prod D W c) k) (fun _ => iprop(postAdd D W c k ∗ owe2 D W c (k.val + 1))) := by
  unfold preAdd owe2 outUpto addStep
  simp only [Prog.lift, Prog.bind_op, Prog.bind_ret]
  iintro ⟨#HK, ⟨HcV, HatV, ⟨%fs, HS⟩, ⟨%fx, HX⟩, #HrX, HtL, #HrL, HtX⟩, ⟨%V, HO⟩, ⟨%b, Hb, %hb⟩⟩
  -- the row block has come
  iapply (Rounds.wp_wait_rest_token 𝒱₀ ER (Rd D W) (c : Thread nD τ) none (κ := κ (came false k c))
      (wpE_waitDma2_eq (src := part mP k) (dst := part mY k) 𝒱₀ (c : Thread nD τ) none Set.univ) (Set.mem_univ _) () (O := dues true c k.val) (W := V)
      (R := 0) (m := 0) (T := ∅) ((Nat.zero_add N).trans (expect_cell D W c ((false, true), k)).symm)) $$ [HcV HO HatV]
  · isplitr; · iapply (know_cell D W κ ((false, true), k) c); iexact HK
    isplitl [HcV]; · iexact HcV
    isplitl [HO]; · iexact HO
    isplitr
    · iapply (mayWait_y c k k.val); iapply (know_lev D W κ); iexact HK
    iexact HatV
  iintro ⟨HO, HatV, -, Hpay⟩
  ihave HY := (Entails.of_eq ((rest_cell D W c ((false, true), k)).trans (copyPay_came D W false k c)) : _ ⊢ ptY c k (rnd D W (dY c))) $$ Hpay
  unfold ptY
  -- it is read, and the sum stored
  iapply (wp_load_rect 𝒱₀ (c : Thread nD τ) none Set.univ (m := mY) (r := rows k) (Finset.Subset.refl _)) $$ HY
  iintro HY
  rw [read_Y]
  iapply (wp_load_rect 𝒱₀ (c : Thread nD τ) none Set.univ (m := mO) (r := Rect.unit (s := S512x512) (k0_off1 c (BitVec.ofNat 32 (32 * k.val))) S32x512.size (k0_off1_inb c k))
      (Finset.subset_univ _)) $$ Hb
  iintro Hb
  iapply (wp_store 𝒱₀ (c : Thread nD τ) none Set.univ (m := mO) (r := Rect.unit (s := S512x512) (k0_off1 c (BitVec.ofNat 32 (32 * k.val))) S32x512.size (k0_off1_inb c k))
      (Mk := Finset.univ) (Finset.subset_univ _)) $$ Hb
  iintro Hb
  unfold ptS
  iapply (wp_load_rect 𝒱₀ (c : Thread nD τ) none Set.univ (m := mS) (r := rows k) (Finset.Subset.refl _)) $$ HS
  iintro HS
  ihave HS := (show ((mS.access (rows k)).loc (c : Thread nD τ) ↦[(mS.access (rows k)).set]{fullShare} fs : sProp 𝕄) ⊢ ptS c k fs from BI.Entails.refl _) $$ HS
  iapply (wp_store_S c k fs (half D W c) _ (sumRnd_eq D W c k)) $$ HS
  iintro HS
  unfold ptS ptX
  -- and sent on
  iapply (Rounds.wp_send_pointsTo 𝒱₀ ER (Rd D W) (c : Thread nD τ) none (c' := (nb true c : Thread nD τ)) (src := part mS k) (dst := part mX k)
      (sS := osem ((true, false), k)) (sem := osem ((true, true), k)) (q := fullShare) (fs := half D W c) (fd := fx)
      (κ₁ := κ (left true k c)) (κ₂ := κ (came true k (nb true c))) (r₁ := 0) (r₂ := 0) (d₁ := false) (d₂ := false)
      (cell_mem D W _ c) (cell_mem D W _ (nb true c)) () () N rfl (amount_cell D W c _ false) (amount_cell D W (nb true c) _ false)
      (O₀ := dues true c k.val) (dues true c (k.val + 1)) (dues_step true c k) (W := _)
      (by rw [payload_cell, copyPay_left]; exact BI.Entails.refl _)
      (by rw [payload_cell, copyPay_came, nb_nb]; exact Entails.of_eq (land_X (nb true c) k fx (half D W c)))) $$ [HS HX HO HtL HtX]
  · isplitr; · iapply (know_cell D W κ ((true, false), k) c); iexact HK
    isplitr; · iapply (know_cell D W κ ((true, true), k) (nb true c)); iexact HK
    isplitl [HS]; · iexact HS
    isplitl [HX]; · iexact HX
    isplitl [HO]; · iexact HO
    isplitl [HtL]; · iexact HtL
    isplitr; · iexact HrL
    isplitl [HtX]; · iexact HtX
    iexact HrX
  iintro ⟨Hc, HO⟩
  rw [wp_ret]
  imod (finish D W κ ((false, true), k) c) $$ [HatV] with Hz
  · isplitr; · iexact HK
    iexact HatV
  imodintro
  unfold postAdd ptY
  isplitl [Hz HY Hc]
  · isplitl [Hz]; · iexact Hz
    isplitl [HY]; · iexact HY
    iexact Hc
  isplitl [HO]; · iexists _; iexact HO
  iexists _
  isplitl [Hb]; · iexact Hb
  ipureintro
  exact hb.own D W

/-- What the step that takes the other half uses, -/
def preTake (k : Fin 8) : sProp 𝕄 := iprop(cred (tallyAt (came true k c) () N) ∗ atPos ER (came true k c) 0 ∅ 0)
/-- and what it leaves. -/
def postTake (k : Fin 8) : sProp 𝕄 := iprop(semVal (came true k c) 0 ∗ ptX c k (half D W (nb true c)))
/-- Nothing is owed in the third stretch; the result so far. -/
def owe3 (n : ℕ) : sProp 𝕄 := iprop((∃ V, owes (c : Thread nD τ) 0 V) ∗ outUpto D W c (8 + n))

/-- The step that takes a row block of the other half into the result. -/
theorem step_take (k : Fin 8) : iprop(know D W κ ∗ preTake c k ∗ owe3 D W c k.val)
    ⊢ wp frame (wpE (defs₀ (F := F)) 𝒱₀ (c : Thread nD τ) none) Set.univ (takeX c k) (fun _ => iprop(postTake D W c k ∗ owe3 D W c (k.val + 1))) := by
  unfold preTake owe3 outUpto takeX
  simp only [Prog.lift, Prog.bind_op, Prog.bind_ret]
  iintro ⟨#HK, ⟨HcV, HatV⟩, ⟨%V, HO⟩, ⟨%b, Hb, %hb⟩⟩
  iapply (Rounds.wp_wait_rest_token 𝒱₀ ER (Rd D W) (c : Thread nD τ) none (κ := κ (came true k c))
      (wpE_waitDma2_eq (src := part mS k) (dst := part mX k) 𝒱₀ (c : Thread nD τ) none Set.univ) (Set.mem_univ _) () (O := 0) (W := V)
      (R := 0) (m := 0) (T := ∅) ((Nat.zero_add N).trans (expect_cell D W c ((true, true), k)).symm)) $$ [HcV HO HatV]
  · isplitr; · iapply (know_cell D W κ ((true, true), k) c); iexact HK
    isplitl [HcV]; · iexact HcV
    isplitl [HO]; · iexact HO
    isplitr; · rw [MayWait_zero]; iempintro
    iexact HatV
  iintro ⟨HO, HatV, -, Hpay⟩
  ihave HX := (Entails.of_eq ((rest_cell D W c ((true, true), k)).trans (copyPay_came D W true k c)) : _ ⊢ ptX c k (half D W (dX c))) $$ Hpay
  unfold ptX
  iapply (wp_load_rect 𝒱₀ (c : Thread nD τ) none Set.univ (m := mX) (r := rows k) (Finset.Subset.refl _)) $$ HX
  iintro HX
  rw [read_X]
  iapply (wp_load_rect 𝒱₀ (c : Thread nD τ) none Set.univ (m := mO) (r := Rect.unit (s := S512x512) (k0_off2 c (BitVec.ofNat 32 (32 * k.val))) S32x512.size (k0_off2_inb c k))
      (Finset.subset_univ _)) $$ Hb
  iintro Hb
  iapply (wp_store 𝒱₀ (c : Thread nD τ) none Set.univ (m := mO) (r := Rect.unit (s := S512x512) (k0_off2 c (BitVec.ofNat 32 (32 * k.val))) S32x512.size (k0_off2_inb c k))
      (Mk := Finset.univ) (Finset.subset_univ _)) $$ Hb
  iintro Hb
  rw [wp_ret]
  imod (finish D W κ ((true, true), k) c) $$ [HatV] with Hz
  · isplitr; · iexact HK
    iexact HatV
  imodintro
  unfold postTake ptX
  isplitl [Hz HX]
  · isplitl [Hz] <;> iassumption
  isplitl [HO]; · iexists _; iexact HO
  iexists _
  isplitl [Hb]; · iexact Hb
  ipureintro
  exact hb.other D W

/-- What the step that drains uses, -/
def preDrain (k : Fin 8) : sProp 𝕄 :=
  iprop((cred (tallyAt (left false k c) () N) ∗ atPos ER (left false k c) 0 ∅ 0) ∗ (cred (tallyAt (left true k c) () N) ∗ atPos ER (left true k c) 0 ∅ 0))
/-- and what it leaves. -/
def postDrain (k : Fin 8) : sProp 𝕄 :=
  iprop((semVal (left false k c) 0 ∗ ptP c k (rnd D W c)) ∗ (semVal (left true k c) 0 ∗ ptS c k (half D W c)))
/-- Nothing is owed in the last stretch. -/
def owe4 (_ : ℕ) : sProp 𝕄 := iprop(∃ V, owes (c : Thread nD τ) 0 V)

/-- The step that drains: both sources of a row block are back. -/
theorem step_drain (k : Fin 8) : iprop(know D W κ ∗ preDrain c k ∗ owe4 c k.val)
    ⊢ wp frame (wpE (defs₀ (F := F)) 𝒱₀ (c : Thread nD τ) none) Set.univ (drain k) (fun _ => iprop(postDrain D W c k ∗ owe4 c (k.val + 1))) := by
  unfold preDrain owe4 drain
  simp only [Prog.lift, Prog.bind_op, Prog.bind_ret]
  iintro ⟨#HK, ⟨⟨Hc0, Hat0⟩, ⟨Hc1, Hat1⟩⟩, ⟨%V, HO⟩⟩
  iapply (Rounds.wp_wait_rest_token 𝒱₀ ER (Rd D W) (c : Thread nD τ) none (κ := κ (left false k c))
      (wpE_waitDma2_eq (src := part mY k) (dst := part mP k) 𝒱₀ (c : Thread nD τ) none Set.univ) (Set.mem_univ _) () (O := 0) (W := V)
      (R := 0) (m := 0) (T := ∅) ((Nat.zero_add N).trans (expect_cell D W c ((false, false), k)).symm)) $$ [Hc0 HO Hat0]
  · isplitr; · iapply (know_cell D W κ ((false, false), k) c); iexact HK
    isplitl [Hc0]; · iexact Hc0
    isplitl [HO]; · iexact HO
    isplitr; · rw [MayWait_zero]; iempintro
    iexact Hat0
  iintro ⟨HO, Hat0, -, Hpay⟩
  ihave HP := (Entails.of_eq ((rest_cell D W c ((false, false), k)).trans (copyPay_left D W false k c))) $$ Hpay
  iapply (Rounds.wp_wait_rest_token 𝒱₀ ER (Rd D W) (c : Thread nD τ) none (κ := κ (left true k c))
      (wpE_waitDma2_eq (src := part mX k) (dst := part mS k) 𝒱₀ (c : Thread nD τ) none Set.univ) (Set.mem_univ _) () (O := 0) (W := _)
      (R := 0) (m := 0) (T := ∅) ((Nat.zero_add N).trans (expect_cell D W c ((true, false), k)).symm)) $$ [Hc1 HO Hat1]
  · isplitr; · iapply (know_cell D W κ ((true, false), k) c); iexact HK
    isplitl [Hc1]; · iexact Hc1
    isplitl [HO]; · iexact HO
    isplitr; · rw [MayWait_zero]; iempintro
    iexact Hat1
  iintro ⟨HO, Hat1, -, Hpay⟩
  ihave HS := (Entails.of_eq ((rest_cell D W c ((true, false), k)).trans (copyPay_left D W true k c))) $$ Hpay
  rw [wp_ret]
  imod (finish D W κ ((false, false), k) c) $$ [Hat0] with Hz0
  · isplitr; · iexact HK
    iexact Hat0
  imod (finish D W κ ((true, false), k) c) $$ [Hat1] with Hz1
  · isplitr; · iexact HK
    iexact Hat1
  imodintro
  unfold postDrain srcAt sent
  isplitr [HO]
  · isplitl [Hz0 HP]
    · isplitl [Hz0]; · iexact Hz0
      iexact HP
    isplitl [Hz1]; · iexact Hz1
    iexact HS
  iexists _; iexact HO

end Run

end Cert.KernelIdeal.Proto

end
-- ==== Proof.Run.lean ====
module

public import proofs.«01_k».proof.Proof.Body

/-! # The body's run

The four stretches after the barrier, and the whole body from what a device holds when its kernel starts. -/

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen Cert.KernelIdeal.Steps

variable {F : FTy → Type} [FloatOps F]

local notation "𝕄" => MT nD τ sig Unit (Elt F) ℕ UU ℕ

/-- A resource for every copy's end, link by link and end by end. -/
theorem over_copies (Φ : Copy → sProp 𝕄) : bigSep Finset.univ Φ
    = iprop(bigSep (Finset.univ : Finset (Fin 8)) (fun k => Φ ((false, false), k)) ∗ bigSep (Finset.univ : Finset (Fin 8)) (fun k => Φ ((false, true), k)) ∗ bigSep (Finset.univ : Finset (Fin 8)) (fun k => Φ ((true, false), k)) ∗ bigSep (Finset.univ : Finset (Fin 8)) (fun k => Φ ((true, true), k))) := by
  rw [bigSep_univ_prod]
  exact bigSep_univ_eq_bigSepL [(false, false), (false, true), (true, false), (true, true)] (by decide) (by decide) _

/-- A resource for every arrival, link by link. -/
theorem over_links (Φ : Bool × Fin 8 → sProp 𝕄) : bigSep Finset.univ Φ
    = iprop(bigSep (Finset.univ : Finset (Fin 8)) (fun k => Φ (false, k)) ∗ bigSep (Finset.univ : Finset (Fin 8)) (fun k => Φ (true, k))) := by
  rw [bigSep_univ_prod]
  exact bigSep_univ_eq_bigSepL [false, true] (by decide) (by decide) _

section Run

variable (D : Dev nD → Vec F S256x2048 .bf16) (W : Dev nD → Vec F S512x2048 .bf16) (κ : GSem nD τ sig → ℕ) (c : Dev nD)

/-- The device whose counter a copy's end is. -/
def atEnd (k : Copy) (c : Dev nD) : Dev nD := if k.1.2 then nb k.1.1 c else c

/-- What a device may do with the counters once they are open. -/
def rights : sProp 𝕄 :=
  iprop(bigSep Finset.univ (fun k : Copy => atPos ER (cell k c) 0 ∅ 0) ∗ bigSep Finset.univ (fun k : Copy => reached ER (cell k c) 0)
    ∗ bigSep Finset.univ (fun k : Copy => dutyTok ER (cell k (atEnd k c)) 0 false)
    ∗ bigSep Finset.univ (fun p : Bool × Fin 8 => cred (tallyAt (came p.1 p.2 c) () N)))

theorem rights_eq : (rights c : sProp 𝕄)
    = iprop(bigSep Finset.univ (fun k : Copy => atPos ER (cell k c) 0 ∅ 0)
      ∗ (bigSep (Finset.univ : Finset (Fin 8)) (fun k => reached ER (left false k c) 0) ∗ bigSep (Finset.univ : Finset (Fin 8)) (fun k => reached ER (came false k c) 0)
        ∗ bigSep (Finset.univ : Finset (Fin 8)) (fun k => reached ER (left true k c) 0) ∗ bigSep (Finset.univ : Finset (Fin 8)) (fun k => reached ER (came true k c) 0))
      ∗ bigSep Finset.univ (fun k : Copy => dutyTok ER (cell k (atEnd k c)) 0 false)
      ∗ bigSep Finset.univ (fun p : Bool × Fin 8 => cred (tallyAt (came p.1 p.2 c) () N))) := by
  unfold rights
  rw [over_copies (fun k : Copy => reached ER (cell k c) 0)]

/-- What the four stretches start from. -/
def loopsPre : sProp 𝕄 :=
  iprop(rights c ∗ barPay false c ∗ barPay true c
    ∗ bigSep (Finset.univ : Finset (Fin 8)) (fun k => ptP c k (rnd D W c)) ∗ bigSep (Finset.univ : Finset (Fin 8)) (fun k => iprop(∃ f, ptS c k f))
    ∗ (∃ b, (c : Thread nD τ).loc cc0_stg2_0 ↦{fullShare} b) ∗ ∃ V, owes (c : Thread nD τ) (dues true c 0 + dues false c 0) V)

/-- What they leave: every counter at zero, the four arrays at their last contents, the result, and nothing owed. -/
def loopsPost : sProp 𝕄 :=
  iprop(bigSep Finset.univ (fun k : Copy => semVal (cell k c) 0)
    ∗ bigSep (Finset.univ : Finset (Fin 8)) (fun k => ptP c k (rnd D W c)) ∗ bigSep (Finset.univ : Finset (Fin 8)) (fun k => ptY c k (rnd D W (nb false c)))
    ∗ bigSep (Finset.univ : Finset (Fin 8)) (fun k => ptS c k (half D W c)) ∗ bigSep (Finset.univ : Finset (Fin 8)) (fun k => ptX c k (half D W (nb true c)))
    ∗ ((c : Thread nD τ).loc cc0_stg2_0 ↦{fullShare} (result D W c)) ∗ ∃ V, owes (c : Thread nD τ) 0 V)

theorem preY_rows : bigSep (Finset.univ : Finset (Fin 8)) (preY D W c)
    = iprop(bigSep (Finset.univ : Finset (Fin 8)) (fun k => ptP c k (rnd D W c)) ∗ bigSep (Finset.univ : Finset (Fin 8)) (fun k => iprop(∃ f, ptY (nb false c) k f)) ∗ bigSep (Finset.univ : Finset (Fin 8)) (fun k => reached ER (came false k (nb false c)) 0)
      ∗ bigSep (Finset.univ : Finset (Fin 8)) (fun k => dutyTok ER (left false k c) 0 false) ∗ bigSep (Finset.univ : Finset (Fin 8)) (fun k => reached ER (left false k c) 0)
      ∗ bigSep (Finset.univ : Finset (Fin 8)) (fun k => dutyTok ER (came false k (nb false c)) 0 false)) := by
  unfold preY
  rw [bigSep_sep', bigSep_sep', bigSep_sep', bigSep_sep', bigSep_sep']

theorem preAdd_rows : (bigSep (Finset.univ : Finset (Fin 8)) (preAdd c) : sProp 𝕄)
    = iprop(bigSep (Finset.univ : Finset (Fin 8)) (fun k => cred (tallyAt (came false k c) () N)) ∗ bigSep (Finset.univ : Finset (Fin 8)) (fun k => atPos ER (came false k c) 0 ∅ 0)
      ∗ bigSep (Finset.univ : Finset (Fin 8)) (fun k => iprop(∃ f, ptS c k f)) ∗ bigSep (Finset.univ : Finset (Fin 8)) (fun k => iprop(∃ f, ptX (nb true c) k f)) ∗ bigSep (Finset.univ : Finset (Fin 8)) (fun k => reached ER (came true k (nb true c)) 0)
      ∗ bigSep (Finset.univ : Finset (Fin 8)) (fun k => dutyTok ER (left true k c) 0 false) ∗ bigSep (Finset.univ : Finset (Fin 8)) (fun k => reached ER (left true k c) 0)
      ∗ bigSep (Finset.univ : Finset (Fin 8)) (fun k => dutyTok ER (came true k (nb true c)) 0 false)) := by
  unfold preAdd
  rw [bigSep_sep', bigSep_sep', bigSep_sep', bigSep_sep', bigSep_sep', bigSep_sep', bigSep_sep']

theorem postAdd_rows : bigSep (Finset.univ : Finset (Fin 8)) (postAdd D W c)
    = iprop(bigSep (Finset.univ : Finset (Fin 8)) (fun k => semVal (came false k c) 0) ∗ bigSep (Finset.univ : Finset (Fin 8)) (fun k => ptY c k (rnd D W (nb false c))) ∗ bigSep (Finset.univ : Finset (Fin 8)) (fun k => cred (tallyAt (left true k c) () N))) := by
  unfold postAdd
  rw [bigSep_sep', bigSep_sep']

theorem preTake_rows : (bigSep (Finset.univ : Finset (Fin 8)) (preTake c) : sProp 𝕄)
    = iprop(bigSep (Finset.univ : Finset (Fin 8)) (fun k => cred (tallyAt (came true k c) () N)) ∗ bigSep (Finset.univ : Finset (Fin 8)) (fun k => atPos ER (came true k c) 0 ∅ 0)) := by
  unfold preTake
  rw [bigSep_sep']

theorem postTake_rows : bigSep (Finset.univ : Finset (Fin 8)) (postTake D W c)
    = iprop(bigSep (Finset.univ : Finset (Fin 8)) (fun k => semVal (came true k c) 0) ∗ bigSep (Finset.univ : Finset (Fin 8)) (fun k => ptX c k (half D W (nb true c)))) := by
  unfold postTake
  rw [bigSep_sep']

theorem preDrain_rows : (bigSep (Finset.univ : Finset (Fin 8)) (preDrain c) : sProp 𝕄)
    = iprop((bigSep (Finset.univ : Finset (Fin 8)) (fun k => cred (tallyAt (left false k c) () N)) ∗ bigSep (Finset.univ : Finset (Fin 8)) (fun k => atPos ER (left false k c) 0 ∅ 0))
      ∗ (bigSep (Finset.univ : Finset (Fin 8)) (fun k => cred (tallyAt (left true k c) () N)) ∗ bigSep (Finset.univ : Finset (Fin 8)) (fun k => atPos ER (left true k c) 0 ∅ 0))) := by
  unfold preDrain
  rw [bigSep_sep', bigSep_sep', bigSep_sep']

theorem postDrain_rows : bigSep (Finset.univ : Finset (Fin 8)) (postDrain D W c)
    = iprop((bigSep (Finset.univ : Finset (Fin 8)) (fun k => semVal (left false k c) 0) ∗ bigSep (Finset.univ : Finset (Fin 8)) (fun k => ptP c k (rnd D W c)))
      ∗ (bigSep (Finset.univ : Finset (Fin 8)) (fun k => semVal (left true k c) 0) ∗ bigSep (Finset.univ : Finset (Fin 8)) (fun k => ptS c k (half D W c)))) := by
  unfold postDrain
  rw [bigSep_sep', bigSep_sep', bigSep_sep']

theorem run_loops (Q : PUnit → sProp 𝕄) :
    iprop(know D W κ ∗ loopsPre D W c ∗ (loopsPost D W c -∗ |={Set.univ}=> Q ⟨⟩)) ⊢ wp frame (wpE (defs₀ (F := F)) 𝒱₀ (c : Thread nD τ) none) Set.univ (loops c (prod D W c)) (Q) := by
  unfold loopsPre rights loops
  rw [over_copies, over_copies, over_copies, over_links]
  unfold barPay
  rw [bigSep_sep', bigSep_sep']
  iintro ⟨#HK, ⟨⟨⟨HatLY, HatCY, HatLX, HatCX⟩, ⟨#HrLY, #HrCY, #HrLX, #HrCX⟩, ⟨HtLY, HtCY, HtLX, HtCX⟩, ⟨HcY, HcX⟩⟩, ⟨HY, #HrY⟩, ⟨HX, #HrX⟩, HP, HS, ⟨%b, Hb⟩, HO⟩, Hk⟩
  -- the sends along y
  iapply (wp_chain c (know D W κ) (preY D W c) (fun k => cred (tallyAt (left false k c) () N)) (owe1 c) _ _ Q (step_sendY D W κ c))
  isplitr; · iexact HK
  isplitl [HP HY HtLY HtCY]
  · rw [preY_rows]
    isplitl [HP]; · iexact HP
    isplitl [HY]; · iexact HY
    isplitr; · iexact HrY
    isplitl [HtLY]; · iexact HtLY
    isplitr; · iexact HrLY
    iexact HtCY
  isplitl [HO]; · unfold owe1; iexact HO
  iintro ⟨HcLY, HO⟩
  -- the sums
  iapply (wp_chain c (know D W κ) (preAdd c) (postAdd D W c) (owe2 D W c) _ _ Q (step_add D W κ c))
  isplitr; · iexact HK
  isplitl [HcY HatCY HS HX HtLX HtCX]
  · iapply (Entails.of_eq (preAdd_rows (F := F) c).symm)
    isplitl [HcY]; · iexact HcY
    isplitl [HatCY]; · iexact HatCY
    isplitl [HS]; · iexact HS
    isplitl [HX]; · iexact HX
    isplitr; · iexact HrX
    isplitl [HtLX]; · iexact HtLX
    isplitr; · iexact HrLX
    iexact HtCX
  isplitl [HO Hb]
  · unfold owe1 owe2 outUpto
    rw [dues_end, add_zero]
    isplitl [HO]; · iexact HO
    iexists b
    isplitl [Hb]; · iexact Hb
    ipureintro; exact Upto.zero D W c b
  iintro ⟨HB, HO⟩
  ihave HB := (Entails.of_eq (postAdd_rows D W c)) $$ HB
  icases HB with ⟨HzCY, HY, HcLX⟩
  unfold owe2
  rw [dues_end]
  -- the other half
  iapply (wp_chain c (know D W κ) (preTake c) (postTake D W c) (owe3 D W c) _ _ Q (step_take D W κ c))
  isplitr; · iexact HK
  isplitl [HcX HatCX]
  · iapply (Entails.of_eq (preTake_rows (F := F) c).symm)
    isplitl [HcX]; · iexact HcX
    iexact HatCX
  isplitl [HO]; · unfold owe3; iexact HO
  iintro ⟨HB, HO⟩
  ihave HB := (Entails.of_eq (postTake_rows D W c)) $$ HB
  icases HB with ⟨HzCX, HX⟩
  unfold owe3 outUpto
  icases HO with ⟨HO, ⟨%r, Hr, %hr⟩⟩
  obtain rfl := Upto.all D W hr
  -- the sources come back
  iapply (wp_chain c (know D W κ) (preDrain c) (postDrain D W c) (owe4 c) _ _ Q (step_drain D W κ c))
  isplitr; · iexact HK
  isplitl [HcLY HatLY HcLX HatLX]
  · iapply (Entails.of_eq (preDrain_rows (F := F) c).symm)
    isplitl [HcLY HatLY]
    · isplitl [HcLY] <;> iassumption
    isplitl [HcLX] <;> iassumption
  isplitl [HO]; · unfold owe4; iexact HO
  iintro ⟨HB, HO⟩
  ihave HB := (Entails.of_eq (postDrain_rows D W c)) $$ HB
  icases HB with ⟨⟨HzLY, HP⟩, ⟨HzLX, HS⟩⟩
  rw [Prog.pure_eq_ret, wp_ret]
  iapply Hk
  unfold loopsPost
  rw [over_copies]
  isplitl [HzCY HzCX HzLY HzLX]
  · isplitl [HzLY]; · iexact HzLY
    isplitl [HzCY]; · iexact HzCY
    isplitl [HzLX]; · iexact HzLX
    iexact HzCX
  isplitl [HP]; · iexact HP
  isplitl [HY]; · iexact HY
  isplitl [HS]; · iexact HS
  isplitl [HX]; · iexact HX
  isplitl [Hr]; · iexact Hr
  unfold owe4; iexact HO

/-! ## The whole body -/

theorem hz : (![0, 0] : Fin 2 → Nat) = fun _ => 0 := funext fun a => by fin_cases a <;> rfl

/-- A device's own scratch arrays, at contents nobody chose. -/
def scratch : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f))

/-- The barrier: the own position, the two units to give, what to wait with. -/
def barRights : sProp 𝕄 :=
  iprop(atPos ER (bar c) 0 ∅ 0 ∗ reached ER (bar (nb false c)) 0 ∗ reached ER (bar (nb true c)) 0
    ∗ dutyTok ER (bar (nb false c)) 0 false ∗ dutyTok ER (bar (nb true c)) 0 true ∗ cred (tallyAt (bar c) () 2))

/-- What the body starts from. -/
def bodyPre : sProp 𝕄 :=
  iprop(barRights c ∗ rights c ∗ scratch c
    ∗ ((c : Thread nD τ).loc cc0_stg0_0 ↦{fullShare} (D c)) ∗ ((c : Thread nD τ).loc cc0_stg1_0 ↦{fullShare} (W c))
    ∗ (∃ b, (c : Thread nD τ).loc cc0_stg2_0 ↦{fullShare} b) ∗ ∃ V, owes (c : Thread nD τ) (O₀ c) V)

/-- What the body leaves: the barrier passed, every copy's counter at zero, the operands unchanged, the result, nothing owed. -/
def bodyPost : sProp 𝕄 :=
  iprop(semVal (bar c) 0 ∗ bigSep Finset.univ (fun k : Copy => semVal (cell k c) 0) ∗ scratch c
    ∗ ((c : Thread nD τ).loc cc0_stg0_0 ↦{fullShare} (D c)) ∗ ((c : Thread nD τ).loc cc0_stg1_0 ↦{fullShare} (W c))
    ∗ ((c : Thread nD τ).loc cc0_stg2_0 ↦{fullShare} (result D W c)) ∗ ∃ V, owes (c : Thread nD τ) 0 V)

/-- A receiving array, given away with the neighbour's unit. -/
theorem give (a : Bool) : iprop(bigSep (Finset.univ : Finset (Fin 8)) (fun k => iprop(∃ f, dstAt a c k f)) ∗ bigSep (Finset.univ : Finset (Fin 8)) (fun k => reached ER (came a k c) 0)) ⊢ (barPay a (nb a c) : sProp 𝕄) := by
  unfold barPay
  rw [nb_nb, bigSep_sep']

theorem rows_any (Φ : Fin 8 → Vec F S256x512 .bf16 → sProp 𝕄) (f : Vec F S256x512 .bf16) : bigSep (Finset.univ : Finset (Fin 8)) (fun k => Φ k f) ⊢ bigSep (Finset.univ : Finset (Fin 8)) (fun k => iprop(∃ f, Φ k f)) :=
  bigSep_mono fun k _ => (show (Φ k f : sProp 𝕄) ⊢ iprop(∃ f, Φ k f) from by iintro H; iexists f; iexact H)

theorem run_body (Q : PUnit → sProp 𝕄) :
    iprop(know D W κ ∗ bodyPre D W c ∗ (bodyPost D W c -∗ Q ⟨⟩)) ⊢ wp frame (wpE (defs₀ (F := F)) 𝒱₀ (c : Thread nD τ) none) Set.univ (whole) (Q) := by
  unfold whole
  simp only [semSignalWord, semWaitWord, Prog.lift, Prog.bind_op, Prog.bind_ret, wp_deviceId]
  unfold bodyPre barRights scratch
  iintro ⟨#HK, ⟨⟨HatB, #HrB0, #HrB1, HtB0, HtB1, HcB⟩, HR, ⟨⟨%fp, HP⟩, ⟨%fy, HY⟩, ⟨%fs, HS⟩, ⟨%fx, HX⟩⟩, Hd, Hw, Hb, ⟨%V, HO⟩⟩, Hk⟩
  -- the partial product
  iapply (wp_load 𝒱₀ (c : Thread nD τ) none Set.univ (m := Memref.whole cc0_stg1_0) (Finset.subset_univ _)) $$ Hw
  iintro Hw
  iapply (wp_load 𝒱₀ (c : Thread nD τ) none Set.univ (m := Memref.whole cc0_stg0_0) (Finset.subset_univ _)) $$ Hd
  iintro Hd
  rw [show (Memref.whole cc0_stg1_0 : Memref sig .tc .vmem S512x2048 .bf16).view.readAt (Elt F) _ (W c) = W c from Memref.readAt_unit_zero (Elt F) cc0_stg1_0 hz _ (W c),
    show (Memref.whole cc0_stg0_0 : Memref sig .tc .vmem S256x2048 .bf16).view.readAt (Elt F) _ (D c) = D c from Memref.readAt_unit_zero (Elt F) cc0_stg0_0 hz _ (D c)]
  iapply (wp_load 𝒱₀ (c : Thread nD τ) none Set.univ (m := mP) (Finset.subset_univ _)) $$ HP
  iintro HP
  iapply (wp_store 𝒱₀ (c : Thread nD τ) none Set.univ (m := mP) (r := Rect.unit (s := S256x512) ![0, 0] S256x512.size inb_S256x512_S256x512_0_0)
    (Mk := Finset.univ) (Finset.subset_univ _)) $$ HP
  iintro HP
  rw [show (mP.access (Rect.unit (s := S256x512) ![0, 0] S256x512.size inb_S256x512_S256x512_0_0)).write (Elt F) fp (k0_pay2 (W c) (D c)) Finset.univ = rnd D W c
    from Memref.write_access_unit_zero_univ (Elt F) cc0_scratch0 hz _ fp _]
  ihave HP := (show ((c : Thread nD τ).loc cc0_scratch0 ↦{fullShare} (rnd D W c) : sProp 𝕄) ⊢ bigSep (Finset.univ : Finset (Fin 8)) (fun k => ptP c k (rnd D W c)) from Entails.of_eq (split_P c _)) $$ HP
  ihave HY := ((Entails.of_eq (split_Y c fy)).trans (rows_any (fun k => ptY c k) fy)) $$ HY
  ihave HS := ((Entails.of_eq (split_S c fs)).trans (rows_any (fun k => ptS c k) fs)) $$ HS
  ihave HX := ((Entails.of_eq (split_X c fx)).trans (rows_any (fun k => ptX c k) fx)) $$ HX
  ihave HR := (Entails.of_eq (rights_eq (F := F) c)) $$ HR
  icases HR with ⟨Hat, ⟨#HrLY, #HrCY, #HrLX, #HrCX⟩, Ht, Hc⟩
  -- the units for both neighbours, the receiving arrays with them
  iapply (Rounds.wp_signal 𝒱₀ ER (Rd D W) (c : Thread nD τ) none (dst := (nb false c : Thread nD τ)) (sem := sig.barrier 0 rfl) (r := 0) (d := false) (κ := κ (bar (nb false c)))
      (by rw [duties_bar]; exact Finset.mem_univ _) ((amount_bar D W (nb false c) false).trans (by decide)) ()
      (O₀ := O₀ c) (dues true c 0 + dues false c 0 + tallyAt (bar (nb true c)) () 1) rfl)
    $$ [HO HtB0 HY]
  · isplitr; · iapply (know_bar D W κ (nb false c)); iexact HK
    isplitl [HO]; · iexact HO
    isplitl [HtB0]; · iexact HtB0
    isplitl [HY]
    · rw [payload_bar]
      iapply (give c false)
      isplitl [HY]; · iexact HY
      iexact HrCY
    iexact HrB0
  iintro HO
  iapply (Rounds.wp_signal 𝒱₀ ER (Rd D W) (c : Thread nD τ) none (dst := (nb true c : Thread nD τ)) (sem := sig.barrier 0 rfl) (r := 0) (d := true) (κ := κ (bar (nb true c)))
      (by rw [duties_bar]; exact Finset.mem_univ _) ((amount_bar D W (nb true c) true).trans (by decide)) ()
      (dues true c 0 + dues false c 0) rfl)
    $$ [HO HtB1 HX]
  · isplitr; · iapply (know_bar D W κ (nb true c)); iexact HK
    isplitl [HO]; · iexact HO
    isplitl [HtB1]; · iexact HtB1
    isplitl [HX]
    · rw [payload_bar]
      iapply (give c true)
      isplitl [HX]; · iexact HX
      iexact HrCX
    iexact HrB1
  iintro HO
  -- both neighbours' units
  iapply (Rounds.wp_wait_rest_token 𝒱₀ ER (Rd D W) (c : Thread nD τ) none (κ := κ (bar c))
      (wpE_semWait_eq 𝒱₀ (c : Thread nD τ) none Set.univ) (Set.mem_univ _) () (O := dues true c 0 + dues false c 0) (W := V) (R := 0) (m := 0) (T := ∅)
      ((Nat.zero_add 2).trans (expect_bar D W c).symm)) $$ [HcB HO HatB]
  · isplitr; · iapply (know_bar D W κ c); iexact HK
    isplitl [HcB]; · iexact HcB
    isplitl [HO]; · iexact HO
    isplitr
    · iapply (mayWait_bar c); iapply (know_lev D W κ); iexact HK
    iexact HatB
  iintro ⟨HO, HatB, -, Hpay⟩
  ihave Hpay := (Entails.of_eq (rest_bar D W c)) $$ Hpay
  icases Hpay with ⟨HB0, HB1⟩
  -- the four stretches
  iapply (run_loops D W κ c Q)
  isplitr; · iexact HK
  isplitl [Hat Ht Hc HB0 HB1 HP HS Hb HO]
  · unfold loopsPre
    isplitl [Hat Ht Hc]
    · rw [rights_eq]
      isplitl [Hat]; · iexact Hat
      isplitr
      · isplitr; · iexact HrLY
        isplitr; · iexact HrCY
        isplitr; · iexact HrLX
        iexact HrCX
      isplitl [Ht]; · iexact Ht
      iexact Hc
    isplitl [HB0]; · iexact HB0
    isplitl [HB1]; · iexact HB1
    isplitl [HP]; · iexact HP
    isplitl [HS]; · iexact HS
    isplitl [Hb]; · iexact Hb
    iexists _; iexact HO
  iintro HL
  unfold loopsPost
  icases HL with ⟨Hz, HP, HY, HS, HX, Hb, HO⟩
  ihave HP := (show bigSep (Finset.univ : Finset (Fin 8)) (fun k => ptP c k (rnd D W c)) ⊢ ((c : Thread nD τ).loc cc0_scratch0 ↦{fullShare} (rnd D W c) : sProp 𝕄) from Entails.of_eq (split_P c _).symm) $$ HP
  ihave HY := (show bigSep (Finset.univ : Finset (Fin 8)) (fun k => ptY c k (rnd D W (nb false c))) ⊢ ((c : Thread nD τ).loc cc0_scratch1 ↦{fullShare} (rnd D W (nb false c)) : sProp 𝕄) from Entails.of_eq (split_Y c _).symm) $$ HY
  ihave HS := (show bigSep (Finset.univ : Finset (Fin 8)) (fun k => ptS c k (half D W c)) ⊢ ((c : Thread nD τ).loc cc0_scratch2 ↦{fullShare} (half D W c) : sProp 𝕄) from Entails.of_eq (split_S c _).symm) $$ HS
  ihave HX := (show bigSep (Finset.univ : Finset (Fin 8)) (fun k => ptX c k (half D W (nb true c))) ⊢ ((c : Thread nD τ).loc cc0_scratch3 ↦{fullShare} (half D W (nb true c)) : sProp 𝕄) from Entails.of_eq (split_X c _).symm) $$ HX
  imod (Rounds.cell_close ER (Rd D W) (g := bar c) (Set.mem_univ (κ (bar c))) id (duties_later D W (bar c))) $$ [HatB] with HatB
  · isplitr; · iapply (know_bar D W κ c); iexact HK
    iexact HatB
  imodintro
  iapply Hk
  unfold bodyPost scratch
  isplitl [HatB]; · iexact HatB
  isplitl [Hz]; · iexact Hz
  isplitl [HP HY HS HX]
  · isplitl [HP]; · iexists _; iexact HP
    isplitl [HY]; · iexists _; iexact HY
    isplitl [HS]; · iexists _; iexact HS
    iexists _; iexact HX
  isplitl [Hd]; · iexact Hd
  isplitl [Hw]; · iexact Hw
  isplitl [Hb]; · iexact Hb
  iexact HO

end Run

end Cert.KernelIdeal.Proto

end
-- ==== Proof.Region.lean ====
module

public import proofs.«01_k».proof.Proof.Run
public import proofs.«01_k».proof.Proof.Gen.KernelIdeal.Points
public import proofs.«01_k».proof.Proof.Gen.KernelIdeal.Regions
public import Idealize.ShloMosaic.Lib.Pipeline.ValueKit.Geometry

/-! # The kernel's region of the program

What the region is entered with and left with on each device: the half of the first operand and the second operand
in, the result out, every counter of the kernel opened at the start and closed at the end. -/

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen Cert.KernelIdeal.Steps

variable {F : FTy → Type} [FloatOps F]

local notation "𝕄" => MT nD τ sig Unit (Elt F) ℕ UU ℕ

variable (m : (ℓ : Loc nD τ sig) → Buf (Elt F) ℓ)

/-- The half of the first operand that a device multiplies. -/
def dIn (c : Dev nD) : Vec F S256x2048 .bf16 := V1 m c main_v9
/-- The second operand. -/
def wIn (c : Dev nD) : Vec F S512x2048 .bf16 := V1 m c main_arg1
/-- What the device ends with. -/
def out (c : Dev nD) : Vec F S512x512 .f32 := result (dIn m) (wIn m) c

/-- The buffers after the region. -/
def Vend (c : Dev nD) : Valuation τ sig (Elt F) := Function.update (V1 m c) main_v10 (out m c)

theorem Vend_out (c : Dev nD) : Vend m c main_v10 = out m c := Function.update_self _ _ _
theorem Vend_of (c : Dev nD) (b : DevRef τ sig) (h : b ≠ Proc.devRef .tc main_v10) : Vend m c b = V1 m c b :=
  Function.update_of_ne h _ _

/-! ## What travels to the region -/

/-- Every counter follows the schedule under some names. -/
def knows : sProp 𝕄 := iprop(∃ κ, know (dIn m) (wIn m) κ)

/-- The rights over the kernel's counters before they are open. -/
def closedRights (c : Dev nD) : sProp 𝕄 :=
  iprop(bigSep Finset.univ (fun k : Copy => openTok ER (cell k c))
    ∗ bigSep Finset.univ (fun k : Copy => dutyTok ER (cell k (atEnd k c)) 0 false)
    ∗ bigSep Finset.univ (fun p : Bool × Fin 8 => cred (tallyAt (came p.1 p.2 c) () N)))

def atEntry (c : Dev nD) : sProp 𝕄 := iprop(knows m ∗ barRights c ∗ closedRights c)
def entered (c : Dev nD) : sProp 𝕄 := iprop(knows m ∗ barRights c ∗ rights c)

/-- A kernel's counters, opened together. -/
theorem open_all (κ : GSem nD τ sig → ℕ) (c : Dev nD) :
    iprop(know (dIn m) (wIn m) κ ∗ bigSep Finset.univ fun k : Copy => iprop(openTok ER (cell k c) ∗ semVal (cell k c) 0))
      ⊢ (|={Set.univ}=> bigSep Finset.univ fun k : Copy => iprop(atPos ER (cell k c) 0 ∅ 0 ∗ reached ER (cell k c) 0) : sProp 𝕄) :=
  (bigSep_with_persistent (R := know (dIn m) (wIn m) κ)
    (Ψ := fun k : Copy => iprop(|={Set.univ}=> (atPos ER (cell k c) 0 ∅ 0 ∗ reached ER (cell k c) 0)))
    fun k _ => (sep_mono_left (know_cell (dIn m) (wIn m) κ k c)).trans
      (Rounds.cell_open ER (Rd (dIn m) (wIn m)) (g := cell k c) (Set.mem_univ (κ (cell k c))))).trans
    (bigSep_fupd Finset.univ _)

theorem enter (c : Dev nD) : iprop(atEntry m c ∗ Pipeline.ownSems0 osem c ∗ levAts L lv) ⊢ (|={Set.univ}=> entered m c : sProp 𝕄) := by
  unfold atEntry entered closedRights rights knows Pipeline.ownSems0
  iintro ⟨⟨⟨%κ, #HK⟩, HB, Ho, Ht, Hc⟩, Hz, -⟩
  imod (open_all m κ c) $$ [Ho Hz] with H
  · isplitr; · iexact HK
    iapply (Entails.of_eq (bigSep_sep' _ _ _).symm)
    isplitl [Ho]; · iexact Ho
    iexact Hz
  ihave H := (Entails.of_eq (bigSep_sep' _ _ _)) $$ H
  icases H with ⟨Hat, Hr⟩
  imodintro
  isplitr; · iexists κ; iexact HK
  isplitl [HB]; · iexact HB
  isplitl [Hat]; · iexact Hat
  isplitl [Hr]; · iexact Hr
  isplitl [Ht]; · iexact Ht
  iexact Hc

/-! ## The region's data -/

/-- Before the body. -/
def before (c : Dev nD) : sProp 𝕄 := iprop(entered m c ∗ scratch c ∗ ∃ r, prngReg c r)
/-- After it: all counters at zero. -/
def after (c : Dev nD) : sProp 𝕄 :=
  iprop(semVal (bar c) 0 ∗ bigSep Finset.univ (fun k : Copy => semVal (cell k c) 0) ∗ scratch c ∗ ∃ r, prngReg c r)

/-- The windows' contents, the invariant and the debts. -/
def dat (c : Dev nD) : Dat τ (Elt F) Unit ℕ UU ℕ cfg0 c where
  A w := V1 m c (Proc.devRef .tc (Pipeline.arrRef spec0 w))
  after w _ := match w with
    | ⟨0, _⟩ => dIn m c
    | ⟨1, _⟩ => wIn m c
    | ⟨2, _⟩ => out m c
  Φ t := if t.val = 0 then before m c else after c
  q _ := fullShare
  owed t := if t.val = 0 then O₀ c else 0

def pdats : (p : Fin 1) → (c : Dev nD) → Dat τ (Elt F) Unit ℕ UU ℕ (Pipeline.pin (pcfgs (F := F)) adm p) c :=
  fun _ c => dat m c

theorem owed_eq (c : Dev nD) (t : Fin (grid0.N + 1)) : (dat m c).owed t = if t.val = 0 then O₀ c else 0 := rfl
theorem owed_first (c : Dev nD) : (dat m c).owed t0_0.castSucc = O₀ c := (owed_eq m c _).trans (if_pos rfl)
theorem owed_zero (c : Dev nD) : (pdats m 0 c).owed 0 = O₀ c := (owed_eq m c 0).trans (if_pos rfl)
theorem Φ_zero (c : Dev nD) : (pdats m 0 c).Φ 0 = before m c := by
  show (if (0 : Fin (grid0.N + 1)).val = 0 then before m c else after c) = before m c
  exact if_pos rfl
theorem last_ne : (Fin.last grid0.N).val ≠ 0 := by rw [Fin.val_last, N_0]; decide
theorem owed_last (c : Dev nD) : (pdats m 0 c).owed (Fin.last _) = 0 := (owed_eq m c _).trans (if_neg last_ne)
theorem Φ_last (c : Dev nD) : (pdats m 0 c).Φ (Fin.last _) = after c := by
  show (if (Fin.last grid0.N).val = 0 then before m c else after c) = after c
  exact if_neg last_ne
theorem share_full (c : Dev nD) (w : Fin cfg0.W) : (dat m c).share w = fullShare := by unfold Dat.share; split <;> rfl

/-! ## The body, as the region asks for it -/

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- A staging buffer at named contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def askedPre (c : Dev nD) : sProp 𝕄 :=
  iprop(before m c ∗ (dat m c).owesAt () t0_0.castSucc
    ∗ (∃ d, stg c cc0_stg0_0 ((dat m c).before (0 : Fin 3) t0_0 d))
    ∗ (∃ d, stg c cc0_stg1_0 ((dat m c).before (1 : Fin 3) t0_0 d))
    ∗ (∃ d, stg c cc0_stg2_0 ((dat m c).before (2 : Fin 3) t0_0 d)))
def askedPost (c : Dev nD) : sProp 𝕄 :=
  iprop(after c ∗ (dat m c).owesAt () t0_0.succ ∗ stg c cc0_stg0_0 (dIn m c) ∗ stg c cc0_stg1_0 (wIn m c) ∗ stg c cc0_stg2_0 (out m c))

/-- The whole-array windows fetch the arrays. -/
theorem fetched_d (c : Dev nD) (d) : (dat m c).before (0 : Fin 3) t0_0 d = dIn m c := by
  unfold Dat.before
  rw [if_pos (fetch0_0 t0_0)]
  funext j
  exact congrArg (dIn m c) (funext fun a => Fin.ext (Pipeline.Window.rect_emb_val_of_index_zero (win0 0) t0_0 a rfl j))
theorem fetched_w (c : Dev nD) (d) : (dat m c).before (1 : Fin 3) t0_0 d = wIn m c := by
  unfold Dat.before
  rw [if_pos (fetch0_1 t0_0)]
  funext j
  exact congrArg (wIn m c) (funext fun a => Fin.ext (Pipeline.Window.rect_emb_val_of_index_zero (win0 1) t0_0 a rfl j))

theorem asked (c : Dev nD) : askedPre m c ⊢ wp frame (wpE (defs₀ (F := F)) 𝒱₀ (c : Thread nD τ) none) Set.univ whole (fun _ => askedPost m c) := by
  unfold askedPre before entered knows
  iintro ⟨⟨⟨⟨%κ, #HK⟩, HB, HR⟩, Hs, Hp⟩, HO, ⟨%d0, %g0, %h0, Hd⟩, ⟨%d1, %g1, %h1, Hw⟩, ⟨%d2, %g2, -, Hb⟩⟩
  rw [fetched_d] at h0
  rw [fetched_w] at h1
  subst h0 h1
  unfold Dat.owesAt Pipeline.owesWithin
  icases HO with ⟨%V, -, HO⟩
  rw [owed_first m c]
  iapply (run_body (dIn m) (wIn m) κ c _)
  isplitr; · iexact HK
  isplitl [HB HR Hs HO Hd Hw Hb]
  · unfold bodyPre
    isplitl [HB]; · iexact HB
    isplitl [HR]; · iexact HR
    isplitl [Hs]; · iexact Hs
    isplitl [Hd]; · iexact Hd
    isplitl [Hw]; · iexact Hw
    isplitl [Hb]; · iexists g2; iexact Hb
    iexists V; iexact HO
  unfold bodyPost
  iintro ⟨HzB, Hz, Hs, Hd, Hw, Hb, ⟨%V', HO⟩⟩
  unfold askedPost after Dat.owesAt Pipeline.owesWithin Dat.bound
  isplitl [HzB Hz Hs Hp]
  · isplitl [HzB]; · iexact HzB
    isplitl [Hz]; · iexact Hz
    isplitl [Hs]; · iexact Hs
    iexact Hp
  isplitl [HO]
  · iexists V'
    isplitr; · ipureintro; exact fun _ _ => Or.inl trivial
    rw [show (dat m c).owed t0_0.succ = 0 from (owed_eq m c _).trans (if_neg (Nat.succ_ne_zero _))]
    iexact HO
  isplitl [Hd]
  · iexists _; isplitr; · (ipureintro; rfl)
    iexact Hd
  isplitl [Hw]
  · iexists _; isplitr; · (ipureintro; rfl)
    iexact Hw
  iexists _; isplitr; · (ipureintro; rfl)
  iexact Hb

set_option maxRecDepth 8000 in
theorem obligation (c : Dev nD) : BodyObligation (dat m c) (defs₀ (F := F)) 𝒱₀ () Set.univ := fun t => by
  rw [fin_N0 t]
  rw [bigSep_W0, bigSep_W0]
  simp only [owns_whole]
  show askedPre m c ⊢ wp frame (wpE (defs₀ (F := F)) 𝒱₀ (c : Thread nD τ) none) Set.univ
    (cc0_body (Memref.whole cc0_stg0_0) (Memref.isWhole_whole _) (Memref.whole cc0_stg1_0) (Memref.isWhole_whole _) (Memref.whole cc0_stg2_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) cc0_scratch4 cc0_scratch5 cc0_scratch6 cc0_scratch7)
    (fun _ => askedPost m c)
  rw [body_eq]
  exact asked m c

/-! ## The region's record -/

theorem ownSems : Pipeline.OwnSemFacts spec0 osem := by decide +kernel

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- A staging semaphore comes first in the order of waiting. -/
theorem stage_ne : ∀ (w : Fin 3) (s : Fin (spec0 w).nbuf) (k : Copy), osem k ≠ .dma ((spec0 w).sem s) := by decide +kernel
theorem lv_stage (c : Dev nD) (w : Fin 3) (s : Fin (spec0 w).nbuf) (u : Unit) : lv ((c : Thread nD τ), .dma ((spec0 w).sem s)) u = 0 := by
  unfold lv endOf
  rw [if_neg (fun h => by cases h), dif_neg (fun h => h.elim fun k hk => stage_ne w s k hk)]
  rfl

theorem owed_above (c : Dev nD) (t : Fin (cfg0.N + 1)) (g : GSem nD τ sig) (i : Unit) (h : 0 < (dat m c).owed t g i) : i ∈ L g ∧ 0 < lv g i := by
  rw [show (dat m c).owed t = if t.val = 0 then O₀ c else 0 from rfl] at h
  split at h
  · rcases O₀_pos h with ⟨a, k, rfl⟩ | ⟨a, rfl⟩
    · refine ⟨mem_L _ _ _, ?_⟩
      rw [lv_cell]
      cases a
      · exact (by decide : 0 < 2)
      · exact (by decide : 0 < 3)
    · exact ⟨mem_L _ _ _, by rw [lv_bar]; decide⟩
  · exact absurd h (Nat.lt_irrefl 0)

/-- The buffers that are no window's array. -/
abbrev restRefs : Finset (DevRef τ sig) := Pipeline.ucRefs τ sig \ Pipeline.arrRefs spec0

theorem held_none (c : Dev nD) (V : Valuation τ sig (Elt F)) : (StableHlo.held (c : Thread nD τ) ∅ V : sProp 𝕄) = iprop(emp) := by
  unfold StableHlo.held; exact bigSep_empty

theorem region_in (c : Dev nD) : iprop(Pipeline.scopedRest (Pipeline.pin (pcfgs (F := F)) adm 0).spec c ∗ (∃ r, prngReg c r)
    ∗ StableHlo.held (c.tc : Thread nD τ) ∅ (V1 m c) ∗ entered m c) ⊢ (pdats m 0 c).Φ 0 := by
  rw [Φ_zero]
  refine (sep_mono_left (Entails.of_eq (scopedRest0_eq c))).trans ?_
  unfold before scratch
  iintro ⟨Hs, Hp, -, HE⟩
  isplitl [HE]; · iexact HE
  isplitl [Hs]; · iexact Hs
  iexact Hp

theorem region_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vend m c) ∗ Pipeline.ownSems0 osem c ∗ semVal (bar c) 0) := by
  refine BIBase.Entails.trans ?_ (sep_mono_left (Entails.of_eq (scopedRest0_eq c).symm))
  rw [Φ_last, held_none]
  unfold after scratch Pipeline.ownSems0
  iintro ⟨HzB, Hz, Hs, Hp⟩
  isplitl [Hs]; · iexact Hs
  isplitl [Hp]; · iexact Hp
  isplitr; · iempintro
  isplitl [Hz]; · iexact Hz
  iexact HzB

theorem arr_first (c : Dev nD) (w : Fin 3) : (dat m c).arrAt w 0 = V1 m c (Proc.devRef .tc (Pipeline.arrRef spec0 w)) := rfl

theorem arr_last (c : Dev nD) (w : Fin 3) : (dat m c).arrAt w cfg0.N = Vend m c (Proc.devRef .tc (Pipeline.arrRef spec0 w)) := by
  match w with
  | ⟨0, _⟩ => exact ((dat m c).arrAt_in 0 rfl _).trans (Vend_of m c main_v9 (by decide)).symm
  | ⟨1, _⟩ => exact ((dat m c).arrAt_in 1 rfl _).trans (Vend_of m c main_arg1 (by decide)).symm
  | ⟨2, _⟩ =>
    refine Eq.trans ?_ (Vend_out m c).symm
    exact (dat m c).arrAt_eq_of_after_last 2 t0_0 (by decide +kernel) _ (fun j => rfl)

set_option backward.isDefEq.respectTransparency.types false in
def region : Pipeline.RegionSeg (pcfgs (F := F)) adm (pdats m) () defs₀ 𝒱₀ L lv 0 :=
  Pipeline.RegionSeg.ofTalk (pcfgs (F := F)) adm (pdats m) () defs₀ 𝒱₀ L lv 0 osem ownSems
    ∅ restRefs (Finset.empty_subset _) kit rfl (fun c => (obligation m c).loose)
    (fun _ => 0) O₀ (fun c => (owed_zero m c).trans (zero_add _).symm) (owed_last m) (fun _ => rfl) (share_full m)
    (V1 m) (Vend m)
    (fun c b hb => Vend_of m c b fun h => by
      rw [Finset.sdiff_empty, h] at hb
      exact absurd hb (by decide))
    (atEntry m) (fun c => semVal (bar c) 0) (entered m) (fun c => semVal (bar c) 0) (enter m) (region_in m) (region_out m)
    (fun c => by iintro H; imodintro; iexact H)
    (fun _ => 0)
    ⟨fun _ _ _ => mem_L _ _ _, fun c w s => (lv_stage c w s ()).le, fun c t g i h => owed_above m c t g i h⟩
    (fun _ => iprop(emp))
    (arr_first m) (arr_last m)

end Cert.KernelIdeal.Proto

end
-- ==== Proof.Launch.lean ====
module

public import proofs.«01_k».proof.Proof.Region
public import Idealize.ShloMosaic.Lib.Quiescent

/-! # The launch and the run

What the launch deals to the four devices, and what the program leaves: the arguments unchanged, the result, every counter
at zero. -/

@[expose] public section

noncomputable section

namespace Cert.KernelIdeal.Proto

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg)
open Cert.KernelIdeal.Gen Cert.KernelIdeal.Steps

variable {F : FTy → Type} [FloatOps F]

local notation "𝕄" => MT nD τ sig Unit (Elt F) ℕ UU ℕ

variable (m : (ℓ : Loc nD τ sig) → Buf (Elt F) ℓ) (ρ : Dev nD → PrngReg)

/-! ## The tokens, dealt to the devices that pay with them -/

theorem atEnd_atEnd (k : Copy) (c : Dev nD) : atEnd k (atEnd k c) = c := by
  unfold atEnd
  split
  · exact nb_nb _ _
  · rfl

/-- A device's tokens: one for each neighbour's barrier, one for each end of each of its copies. -/
def payAt : (Dev nD × Bool) ⊕ (Dev nD × Copy) → GSem nD τ sig × ℕ × Bool
  | .inl (c, d) => (bar (nb d c), 0, d)
  | .inr (c, k) => (cell k (atEnd k c), 0, false)

theorem payAt_inj : Function.Injective payAt := by
  rintro (⟨c, d⟩ | ⟨c, k⟩) (⟨c', d'⟩ | ⟨c', k'⟩) h
  · obtain rfl : d = d' := congrArg (fun t : GSem nD τ sig × ℕ × Bool => t.2.2) h
    have hc : nb d c = nb d c' := congrArg (fun t : GSem nD τ sig × ℕ × Bool => t.1.1.1) h
    rw [← nb_nb d c, hc, nb_nb]
  · exact absurd (congrArg (fun t : GSem nD τ sig × ℕ × Bool => t.1.2) h).symm (osem_ne_bar k')
  · exact absurd (congrArg (fun t : GSem nD τ sig × ℕ × Bool => t.1.2) h) (osem_ne_bar k)
  · obtain rfl : k = k' := osem_inj (congrArg (fun t : GSem nD τ sig × ℕ × Bool => t.1.2) h)
    have hc : atEnd k c = atEnd k c' := congrArg (fun t : GSem nD τ sig × ℕ × Bool => t.1.1.1) h
    rw [← atEnd_atEnd k c, hc, atEnd_atEnd]

def pays : Finset (GSem nD τ sig × ℕ × Bool) := Finset.univ.map ⟨payAt, payAt_inj⟩

theorem over_bool (Φ : Bool → sProp 𝕄) : bigSep Finset.univ Φ = iprop(Φ false ∗ Φ true) :=
  bigSep_univ_eq_bigSepL [false, true] (by decide) (by decide) Φ

theorem pays_eq : bigSep pays (fun x => (dutyTok ER x.1 x.2.1 x.2.2 : sProp 𝕄))
    = iprop(bigSep Finset.univ (fun c : Dev nD => iprop(dutyTok ER (bar (nb false c)) 0 false ∗ dutyTok ER (bar (nb true c)) 0 true))
      ∗ bigSep Finset.univ (fun c : Dev nD => bigSep Finset.univ fun k : Copy => dutyTok ER (cell k (atEnd k c)) 0 false)) := by
  unfold pays
  rw [bigSep_map, bigSep_univ_sum, bigSep_univ_prod, bigSep_univ_prod]
  refine congrArg₂ BIBase.sep (bigSep_congr fun c _ => ?_) rfl
  rw [over_bool]; rfl

theorem cells_disjoint : Disjoint (barCells : Finset (GSem nD τ sig)) endCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

/-! ## What the launch owes each device -/

/-- A debt to the neighbour's counter, read at a counter of the same name. -/
theorem tally_across (a : Bool) (d c : Dev nD) (s : SemLoc sig) (n : ℕ) :
    (tallyAt ((nb a d : Thread nD τ), s) () n : CellTallies nD τ sig Unit) ((c : Thread nD τ), s) () = if d = nb a c then n else 0 := by
  rw [tallyAt_apply]
  by_cases h : d = nb a c
  · subst h; rw [nb_nb, if_pos ⟨rfl, rfl⟩, if_pos rfl]
  · rw [if_neg (fun ⟨h1, _⟩ => h (by
      have hc : c = nb a d := congrArg (fun g : GSem nD τ sig => g.1.1) h1
      rw [hc, nb_nb])), if_neg h]

/-- A debt read at a counter of another name. -/
theorem tally_apart (d c : Dev nD) {s s' : SemLoc sig} (h : s ≠ s') (n : ℕ) :
    (tallyAt ((d : Thread nD τ), s) () n : CellTallies nD τ sig Unit) ((c : Thread nD τ), s') () = 0 := by
  rw [tallyAt_apply, if_neg fun ⟨h1, _⟩ => h (congrArg Prod.snd h1).symm]

theorem dues_apart (a : Bool) (d c : Dev nD) {s : SemLoc sig} (h : ∀ k : Fin 8, osem ((a, true), k) ≠ s) :
    dues a d 0 ((c : Thread nD τ), s) () = 0 := by
  unfold dues
  rw [Finset.sum_apply, Finsupp.finset_sum_apply]
  exact Finset.sum_eq_zero fun k _ => tally_apart _ _ (h k) N

theorem dues_across (a : Bool) (d c : Dev nD) (k : Fin 8) : dues a d 0 (came a k c) () = if d = nb a c then N else 0 := by
  unfold dues
  rw [Finset.sum_apply, Finsupp.finset_sum_apply,
    Finset.sum_eq_single k (fun j _ hj => tally_apart _ _ (fun h => hj (congrArg Prod.snd (osem_inj h))) N)
      (fun h => absurd (Finset.mem_filter.mpr ⟨Finset.mem_univ k, Nat.zero_le _⟩) h)]
  exact tally_across a d c _ N

theorem owed_bar (d c : Dev nD) : O₀ d (bar c) () = (if d = nb true c then 1 else 0) + (if d = nb false c then 1 else 0) := by
  unfold O₀
  rw [Pi.add_apply, Finsupp.add_apply, Pi.add_apply, Finsupp.add_apply, Pi.add_apply, Finsupp.add_apply,
    dues_apart true d c (fun k => osem_ne_bar _), dues_apart false d c (fun k => osem_ne_bar _), tally_across, tally_across,
    Nat.add_zero, Nat.zero_add]

theorem owed_came (a : Bool) (d c : Dev nD) (k : Fin 8) : O₀ d (came a k c) () = if d = nb a c then N else 0 := by
  have hne (b b' : Bool) (h : b ≠ b') (j : Fin 8) : osem ((b, true), j) ≠ osem ((b', true), k) := fun e =>
    h (congrArg (fun x : Copy => x.1.1) (osem_inj e))
  unfold O₀
  rw [Pi.add_apply, Finsupp.add_apply, Pi.add_apply, Finsupp.add_apply, Pi.add_apply, Finsupp.add_apply,
    tally_apart _ _ (osem_ne_bar _).symm, tally_apart _ _ (osem_ne_bar _).symm, Nat.add_zero]
  cases a
  · rw [dues_apart true d c (hne true false (by decide)), dues_across, Nat.zero_add]
  · rw [dues_apart false d c (hne false true (by decide)), dues_across, Nat.add_zero]

theorem launch_bar (c : Dev nD) :
    tallyOn (bar c) (launchCredit (Pipeline.owing O₀) 0 (bar c)) = (tallyAt (bar c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (nb true c) fun _ => 1, Finset.sum_ite_eq' Finset.univ (nb false c) fun _ => 1,
    if_pos (Finset.mem_univ _), if_pos (Finset.mem_univ _)]

theorem launch_came (a : Bool) (k : Fin 8) (c : Dev nD) :
    tallyOn (came a k c) (launchCredit (Pipeline.owing O₀) 0 (came a k c)) = (tallyAt (came a k c) () N : CellTallies nD τ sig Unit) := by
  unfold tallyAt; refine congrArg _ (Finsupp.ext fun u => ?_); cases u
  rw [Pipeline.launchCredit_owing, Finsupp.single_eq_same, Finset.sum_congr rfl fun d _ => owed_came a d c k,
    Finset.sum_ite_eq' Finset.univ (nb a c) fun _ => N, if_pos (Finset.mem_univ _)]

/-- The names of the counters of arrivals. -/
def cameEmb : Bool × Fin 8 ↪ SemLoc sig :=
  ⟨fun p => osem ((p.1, true), p.2), fun p q h => by
    have e := osem_inj h
    exact Prod.ext (congrArg (fun x : Copy => x.1.1) e) (congrArg (fun x : Copy => x.2) e)⟩

/-- A device may wait for two barrier units and for every arrival. -/
theorem creds (c : Dev nD) : (Pipeline.launchCred O₀ c : sProp 𝕄)
    ⊢ iprop(cred (tallyAt (bar c) () 2) ∗ bigSep Finset.univ fun p : Bool × Fin 8 => cred (tallyAt (came p.1 p.2 c) () N)) := by
  unfold Pipeline.launchCred
  rw [bigSep_univ_at _ barS, launch_bar]
  refine sep_mono_right ?_
  refine (bigSep_subset (t := Finset.univ.map cameEmb) fun s hs => ?_).trans ?_
  · obtain ⟨p, -, rfl⟩ := Finset.mem_map.mp hs
    exact Finset.mem_erase.mpr ⟨osem_ne_bar _, Finset.mem_univ _⟩
  · rw [bigSep_map]
    exact bigSep_mono fun p _ => Entails.of_eq (congrArg cred (launch_came p.1 p.2 c))

/-! ## The launch -/

/-- The launch element: the staging cells' and the kernel's. -/
def u₀ : UU :=
  (initOf (Pipeline.cells (Pipeline.pin (pcfgs (F := F)) adm) cellOf_inj) (Pipeline.launchToks (Pipeline.pin (pcfgs (F := F)) adm) cellOf_inj),
    launchOf barCells endCells pays)

/-- The kernel's part is held by the first device until all devices are dealt to together. -/
def onFirst (X : sProp 𝕄) (c : Dev nD) : sProp 𝕄 := if c = 0 then X else iprop(emp)
theorem bigSep_onFirst (X : sProp 𝕄) : bigSep Finset.univ (onFirst X) = X := by
  rw [bigSep_univ_at _ (0 : Dev nD), bigSep_congr (s := Finset.univ.erase (0 : Dev nD)) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

def G : Dev nD → sProp 𝕄 := onFirst (BI.own (ER (launchOf barCells endCells pays)))

theorem unscopedSems0_eq (c : Dev nD) : (unscopedSems0 c : sProp 𝕄) = semVal (bar c) 0 := by
  unfold unscopedSems0
  rw [show (Finset.univ.filter fun sm : SemLoc sig => ¬ sm.isScoped .tc) = {barS} from by decide +kernel, BI.bigSep_singleton]

/-- All devices know: every counter follows the schedule, and every barrier is open. -/
def shared (κ : GSem nD τ sig → ℕ) : sProp 𝕄 := iprop(know (dIn m) (wIn m) κ ∗ bigSep barCells fun g => reached ER g 0)

instance shared_persistent (κ : GSem nD τ sig → ℕ) : BI.Persistent (shared m κ) := by unfold shared; infer_instance

theorem reached_at (c : Dev nD) : (bigSep barCells fun g => (reached ER g 0 : sProp 𝕄)) ⊢ reached ER (bar c) 0 :=
  bigSep_elim (Finset.mem_map_of_mem barEmb (Finset.mem_univ c))

/-- What the launch gives to one device alone, of the kernel's counters, -/
def dealt (c : Dev nD) : sProp 𝕄 :=
  iprop(atPos ER (bar c) 0 ∅ 0 ∗ bigSep Finset.univ (fun k : Copy => openTok ER (cell k c))
    ∗ (dutyTok ER (bar (nb false c)) 0 false ∗ dutyTok ER (bar (nb true c)) 0 true)
    ∗ bigSep Finset.univ (fun k : Copy => dutyTok ER (cell k (atEnd k c)) 0 false))
/-- and otherwise. -/
def given (c : Dev nD) : sProp 𝕄 :=
  iprop(StableHlo.held (c : Thread nD τ) (Pipeline.ucRefs τ sig) (V0 m c)
    ∗ (cred (tallyAt (bar c) () 2) ∗ bigSep Finset.univ fun p : Bool × Fin 8 => cred (tallyAt (came p.1 p.2 c) () N))
    ∗ owes (c : Thread nD τ) (O₀ c) ∅ ∗ ∃ r, prngReg c r)

/-- What a device holds beside its buffers up to the region (`0`) and after it (`1`). -/
def E (j : Fin 2) (c : Dev nD) : sProp 𝕄 :=
  if j = 0 then iprop(atEntry m c ∗ (∃ r, prngReg c r) ∗ ∃ V, owes (c : Thread nD τ) (O₀ c) V)
  else iprop(semVal (bar c) 0 ∗ ∃ V, owes (c : Thread nD τ) (0 : CellTallies nD τ sig Unit) V)

theorem E_first (c : Dev nD) : E m 0 c = iprop(atEntry m c ∗ (∃ r, prngReg c r) ∗ ∃ V, owes (c : Thread nD τ) (O₀ c) V) := by
  unfold E; exact if_pos rfl
theorem E_last (c : Dev nD) : E m 1 c = iprop(semVal (bar c) 0 ∗ ∃ V, owes (c : Thread nD τ) (0 : CellTallies nD τ sig Unit) V) := by
  unfold E; exact if_neg (by decide)

abbrev first (c : Dev nD) : sProp 𝕄 := iprop(StableHlo.held (c : Thread nD τ) (Pipeline.ucRefs τ sig) (V0 m c) ∗ E m 0 c)
abbrev final (c : Dev nD) : sProp 𝕄 := iprop(StableHlo.held (c : Thread nD τ) (Pipeline.ucRefs τ sig) (Vend m c) ∗ semVal (bar c) 0)

theorem first_intro (κ : GSem nD τ sig → ℕ) (c : Dev nD) : iprop(shared m κ ∗ (dealt c ∗ given m c)) ⊢ first m c := by
  unfold first
  rw [E_first]
  unfold shared dealt given atEntry knows barRights closedRights
  iintro ⟨⟨#HK, #HR⟩, ⟨Hat, Hopen, ⟨Htf, Htt⟩, Htok⟩, Hh, ⟨H2, HN⟩, HO, Hp⟩
  isplitl [Hh]; · iexact Hh
  isplitr [HO Hp]
  · isplitr; · iexists κ; iexact HK
    isplitl [Hat Htf Htt H2]
    · isplitl [Hat]; · iexact Hat
      isplitr; · iapply (reached_at (F := F) (nb false c)); iexact HR
      isplitr; · iapply (reached_at (F := F) (nb true c)); iexact HR
      isplitl [Htf]; · iexact Htf
      isplitl [Htt]; · iexact Htt
      iexact H2
    isplitl [Hopen]; · iexact Hopen
    isplitl [Htok]; · iexact Htok
    iexact HN
  isplitl [Hp]; · iexact Hp
  iexists ∅; iexact HO

/-- What the launch deals to a device, sorted. -/
theorem sorted (c : Dev nD) : iprop(unscopedBufs c (fun b => m ((c.tc : Thread nD τ).loc b)) ∗ unscopedSems0 c
      ∗ owes (c.tc : Thread nD τ) (O₀ c) ∅ ∗ Pipeline.launchCred O₀ c ∗ prngReg c (ρ c) ∗ G c)
    ⊢ (iprop(given m c ∗ (semVal (bar c) 0 ∗ G c)) : sProp 𝕄) := by
  rw [show unscopedBufs c (fun b => m ((c.tc : Thread nD τ).loc b)) = (StableHlo.held (c : Thread nD τ) (Pipeline.ucRefs τ sig) (V0 m c) : sProp 𝕄) from
    Pipeline.unscopedBufs_held c (V0 m c), unscopedSems0_eq]
  unfold given
  iintro ⟨Hh, Hus, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hus] <;> iassumption

/-- Every device's first state, made from what the launch deals to all. -/
theorem init :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv)
      ⊢ (|={Set.univ}=> bigSep Finset.univ (first m) : sProp 𝕄) := by
  have hv : bigSep Finset.univ (fun c : Dev nD => (semVal (bar c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (bar c) 0 ∅ 0 : sProp 𝕄)) :=
    Entails.of_eq (bigSep_map (s := Finset.univ) barEmb (Φ := fun g : GSem nD τ sig => (atPos ER g 0 ∅ 0 : sProp 𝕄)))
  have hopen : bigSep endCells (fun g => (openTok ER g : sProp 𝕄))
      ⊢ bigSep Finset.univ (fun c : Dev nD => bigSep Finset.univ fun k : Copy => (openTok ER (cell k c) : sProp 𝕄)) :=
    Entails.of_eq (by rw [bigSep_map, bigSep_univ_prod]; rfl)
  iintro ⟨H, #Hlev⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
      ⊢ (bigSep Finset.univ fun c : Dev nD => iprop(given m c ∗ (semVal (bar c) 0 ∗ G c)) : sProp 𝕄) from bigSep_mono fun c _ => sorted m ρ c) $$ H
  ihave H2 := (Entails.of_eq (bigSep_sep' _ _ _)) $$ H'; icases H2 with ⟨HB, H3⟩
  ihave H4 := (Entails.of_eq (bigSep_sep' _ _ _)) $$ H3; icases H4 with ⟨Hv, HG⟩
  ihave Hu := (show bigSep Finset.univ (G (F := F)) ⊢ BI.own (ER (launchOf barCells endCells pays)) from
    Entails.of_eq (bigSep_onFirst (F := F) (BI.own (ER (launchOf barCells endCells pays))))) $$ HG
  imod (Rounds.fund_launch ER (Rd (dIn m) (wIn m)) cells_disjoint (fun g _ h => h) pays) $$ [Hv Hu] with ⟨%κ, -, #Hinv, #Hr, Hat, Hopen, Htok⟩
  · isplitl [Hv]
    · iapply hv $$ Hv
    · iexact Hu
  ihave Ht := (Entails.of_eq (pays_eq (F := F))) $$ Htok
  icases Ht with ⟨HtB, HtC⟩
  imodintro
  iapply (bigSep_with_persistent (R := shared m κ) (Φ := fun c => iprop(dealt c ∗ given m c)) fun c _ => first_intro m κ c)
  isplitr
  · unfold shared know
    isplitr
    · isplitr; · iexact Hinv
      iexact Hlev
    iexact Hr
  iapply (Entails.of_eq (bigSep_sep' _ _ _).symm)
  isplitr [HB]
  · unfold dealt
    iapply (Entails.of_eq (bigSep_sep' _ _ _).symm); isplitl [Hat]; · iapply hat $$ Hat
    iapply (Entails.of_eq (bigSep_sep' _ _ _).symm); isplitl [Hopen]; · iapply hopen $$ Hopen
    iapply (Entails.of_eq (bigSep_sep' _ _ _).symm); isplitl [HtB]; · iexact HtB
    iexact HtC
  · iexact HB

/-! ## The region between its neighbours -/

theorem arr_sub : Pipeline.arrRefs (τ := τ) spec0 ⊆ Pipeline.ucRefs τ sig := by decide +kernel

theorem split_held (c : Dev nD) (V : Valuation τ sig (Elt F)) : (StableHlo.held (c : Thread nD τ) (Pipeline.ucRefs τ sig) V : sProp 𝕄)
    = iprop(StableHlo.held (c : Thread nD τ) (Pipeline.arrRefs (τ := τ) spec0) V ∗ StableHlo.held (c : Thread nD τ) restRefs V) :=
  StableHlo.held_sub_split _ arr_sub V

theorem region_pre (c : Dev nD) : iprop(StableHlo.held (c : Thread nD τ) (Pipeline.ucRefs τ sig) (V1 m c) ∗ E m 0 c) ⊢ (region m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ atEntry m c ∗ ∃ Wd, owes (c : Thread nD τ) (0 + O₀ c) Wd)
  rw [E_first, split_held, zero_add]
  iintro ⟨⟨Ha, Hr⟩, HE, Hp, HO⟩
  isplitl [Ha]; · iexact Ha
  isplitl [Hp]; · iexact Hp
  isplitl [Hr]
  · isplitl [Hr]; · iexact Hr
    iempintro
  isplitl [HE]; · iexact HE
  iexact HO

theorem region_post (c : Dev nD) : (region m).post c ⊢ iprop(final m c ∗ ∃ V, owes (c : Thread nD τ) (0 : CellTallies nD τ sig Unit) V) := by
  show iprop(StableHlo.held (c.tc : Thread nD τ) (Pipeline.arrRefs (τ := τ) spec0) (Vend m c) ∗ (∃ r, prngReg c r)
    ∗ (StableHlo.held (c.tc : Thread nD τ) restRefs (Vend m c) ∗ emp) ∗ semVal (bar c) 0 ∗ ∃ Wd, owes (c : Thread nD τ) (0 : CellTallies nD τ sig Unit) Wd) ⊢ _
  unfold final
  rw [split_held]
  iintro ⟨Ha, -, ⟨Hr, -⟩, Hb, HO⟩
  isplitr [HO]
  · isplitl [Ha Hr]
    · isplitl [Ha] <;> iassumption
    iexact Hb
  iexact HO

theorem unscoped_bar : ∀ sm : SemLoc sig, sm.isScoped .tc = false → sm = barS := by decide +kernel

theorem end_arg0 (c : Dev nD) : Vend m c main_arg0 = m ((c : Thread nD τ).loc main_arg0) :=
  (Vend_of m c main_arg0 (by decide)).trans (V1_of m c main_arg0 (by decide))
theorem end_arg1 (c : Dev nD) : Vend m c main_arg1 = m ((c : Thread nD τ).loc main_arg1) :=
  (Vend_of m c main_arg1 (by decide)).trans (V1_of m c main_arg1 (by decide))

set_option backward.isDefEq.respectTransparency.types false in
/-- THE RUN: from any memory with every counter at zero, every fair execution on the four devices ends, with the result in
    the result's buffer, both arguments as they were, and every counter at zero. -/
theorem run_main : θ_run defs (onTc (τ := τ) (main (F := F))) ⟨m, fun _ => 0, ρ⟩
    (fun r => (∀ c : Dev nD, r.2.mem ((c.tc : Thread nD τ).loc main_v10) = out m c
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  Pipeline.θ_run_regions_kit_dev_sems (pcfgs (F := F)) adm (pdats m) () cellOf_inj EP defs₀ 𝒱₀ L lv m ρ main
    (segs m 𝒱₀ L lv (E m) () (pdats m) (region m))
    (fun c Q => by
      rewrite [main_chain c, Seg.run_eq_chain,
        show (segs m 𝒱₀ L lv (E m) () (pdats m) (region m) c).map Seg.prog = [
          StableHlo.seq (hostOps0 c),
          Prog.lift (.customCall (Pipeline.entry 0) ()) ] from rfl]
      exact .rfl)
    (fun c => by simp only [segs, Seg.pipes_host, Seg.pipes_region, Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onFirst]; iexact HX)
    (T₀ := first m) (Tₙ := final m)
    (hch := fun c => ⟨.rfl, region_pre m c, region_post m c⟩)
    (hinit := init m ρ)
    (QY := fun c s => (s.mem ((c.tc : Thread nD τ).loc main_v10) = out m c
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem (bar c) = 0)
    (hfin := fun c s' => by
      unfold final StableHlo.held
      iintro ⟨⟨Hh, Hb⟩, HSI⟩
      icombine HSI Hb gives %hb
      ihave Hr := (pointsTo_read_all (Pipeline.ucRefs τ sig) (fun b => ((c : Thread nD τ).1, b)) (Vend m c) s') $$ [Hh HSI]
      · isplitl [Hh] <;> iassumption
      icases Hr with ⟨%h, HSI⟩
      imodintro
      isplitr
      · ipureintro
        have hm (b : Ref sig .tc) (hb : Proc.devRef .tc b ∈ Pipeline.ucRefs τ sig) :
            s'.mem.mem ((c.tc : Thread nD τ).loc b) = Vend m c (Proc.devRef .tc b) := h (Proc.devRef .tc b) hb
        exact ⟨⟨(hm main_v10 (by decide +kernel)).trans (Vend_out m c), (hm main_arg0 (by decide +kernel)).trans (end_arg0 m c),
          (hm main_arg1 (by decide +kernel)).trans (end_arg1 m c)⟩, by simpa using hb⟩
      iexact HSI)
    (hQ := fun s h hs => ⟨fun c => (h c).1, sem_eq_zero hs fun c sm hsm => by
      obtain rfl := unscoped_bar sm hsm
      exact (h c).2⟩)

end Cert.KernelIdeal.Proto

end
-- ==== Proof.Value.lean ====
module

public import proofs.«01_k».proof.Proof.Launch
public import proofs.«01_k».proof.Proof.Gen.ReferenceIdeal.Run
public import Idealize.ShloMosaic.Lib.DynamicIndex
public import Idealize.ShloMosaic.Lib.MatmulPlain
public import Idealize.ShloMosaic.Lib.StackMember
public import Idealize.ShloMosaic.Lib.StableHlo.RunClose

/-! # The value

Over the extended reals the result of every device is the whole product: entry `(i, j)` is the sum, over all 4096 columns,
of row `i` of the first array times row `j` of the second. -/

@[expose] public section

noncomputable section

namespace Cert.KernelIdeal.Proto

open Idealize.ShloMosaic Idealize.ShloMosaic.TcCoe
open Idealize.SL.Sem
open Cert.KernelIdeal.Gen Cert.KernelIdeal.Steps

/-! ## The rows a device works on -/

section Rows

variable {F : FTy → Type} [FloatOps F]
variable (m : (ℓ : Loc nD τ sig) → Buf (Elt F) ℓ)

/-- The first row of the device's half, as the program computes it. -/
def startWord (c : Dev nD) : IVec S_ 32 :=
  muli (Host.remui (Host.divui (constantI S_ 32 (Dev.word c)) (constantI S_ 32 2#32)) (constantI S_ 32 2#32)) (constantI S_ 32 256#32)

/-- It is 256 times the device's place along `x`. -/
theorem startWord_toInt : ∀ c : Dev nD, (startWord c (Shape.Idx.first h_S_)).toInt = ((256 * (c.val / 2) : ℕ) : Int) := by
  decide +kernel

/-- The rows the program cuts out of the first argument. -/
theorem dIn_eq (c : Dev nD) : dIn m c = Host.dynamicSlice S256x2048 (m ((c.tc : Thread nD τ).loc main_arg0))
    (fun k => ((![select (cmpi .slt (startWord c) (constantI S_ 32 0#32)) (addi (startWord c) (constantI S_ 32 512#32)) (startWord c),
      constantI S_ 32 0#32] : Fin 2 → IVec S_ 32) k (Shape.Idx.first h_S_)).toInt) sliceFits_S512x2048_S256x2048 := by
  unfold dIn V1 hostOps0
  after_results_entrywise []

/-- Row `r` of them is row `256 * x + r` of the argument. -/
theorem dIn_apply (c : Dev nD) (r : Fin 256) (k : Fin 2048) :
    dIn m c (ValueIdx.ix2 r k) = m ((c.tc : Thread nD τ).loc main_arg0)
      (ValueIdx.ix2 (⟨256 * (c.val / 2) + r.val, by have := c.isLt; have : nD = 4 := rfl; omega⟩ : Fin 512) k) := by
  have hoff : S512x2048.Slices ![256 * (c.val / 2), 0] S256x2048 := by revert c; decide +kernel
  rw [dIn_eq, Host.dynamicSlice_eq_extractStridedSlice _ _ _ ![256 * (c.val / 2), 0] _ hoff]
  · refine congrArg (m ((c.tc : Thread nD τ).loc main_arg0)) (funext fun a => ?_)
    match a with
    | ⟨0, _⟩ => rfl
    | ⟨1, _⟩ => exact Fin.ext (Nat.zero_add _)
  · intro a
    match a with
    | ⟨0, _⟩ =>
      have h0 := startWord_toInt c
      refine (congrArg BitVec.toInt (select_slt_zero_of_nonneg (startWord c) _ _ _ ?_)).trans h0
      rw [h0]; exact Int.natCast_nonneg _
    | ⟨1, _⟩ => rfl

/-- The second argument is read where it lies. -/
theorem wIn_apply (c : Dev nD) : wIn m c = m ((c.tc : Thread nD τ).loc main_arg1) := V1_of m c main_arg1 (by decide)

end Rows

/-! ## A partial product -/

variable (D : Dev nD → Vec Ideal S256x2048 .bf16) (W : Dev nD → Vec Ideal S512x2048 .bf16)

/-- A device's partial product, entry by entry. -/
theorem prod_apply (c : Dev nD) (r : Fin 256) (j : Fin 512) :
    prod D W c (ValueIdx.ix2 r j) = ∑ k : Fin 2048, D c (ValueIdx.ix2 r k) * W c (ValueIdx.ix2 j k) := by
  unfold prod k0_pay1
  rw [shapeCast_id, shapeCast_id]
  refine (Ideal.matmul_transposedRhs_apply none (D c) (W c) _ r j).trans ?_
  exact (congrArg (· + _) Ideal.ofBits_zero_f32).trans (zero_add _)

/-- The sum of the two partial products of a pair, entry by entry: rounding changes nothing over the extended reals. -/
theorem total_apply (c : Dev nD) (r : Fin 256) (j : Fin 512) :
    total D W c (ValueIdx.ix2 r j) = prod D W c (ValueIdx.ix2 r j) + prod D W (dY c) (ValueIdx.ix2 r j) :=
  congrArg (prod D W c (ValueIdx.ix2 r j) + ·)
    (congrFun (shapeCast_id (truncf .bf16 (prod D W (dY c)) bitsLt_bf16_f32) shapeCasts_S256x512_S256x512) (ValueIdx.ix2 r j))

/-! ## The whole product -/

/-- One entry of the product of the whole arrays: row `i` of `A` times row `j` of `B`. -/
def entry (A B : FVec Ideal ⟨2, ![512, 4096]⟩ .bf16) (i j : Fin 512) : EReal :=
  ∑ K : Fin 4096, A (ValueIdx.ix2 i K) * B (ValueIdx.ix2 j K)

/-- The part of an entry that one half of the columns gives. -/
def part (A B : FVec Ideal ⟨2, ![512, 4096]⟩ .bf16) (i j : Fin 512) (b : Fin 2) : EReal :=
  ∑ k : Fin 2048, A (ValueIdx.ix2 i ⟨2048 * b.val + k.val, by omega⟩) * B (ValueIdx.ix2 j ⟨2048 * b.val + k.val, by omega⟩)

/-- The two parts, in either order, make the entry. -/
theorem entry_eq (A B : FVec Ideal ⟨2, ![512, 4096]⟩ .bf16) (i j : Fin 512) (b b' : Fin 2) (h : b ≠ b') :
    part A B i j b + part A B i j b' = entry A B i j := by
  have h01 : part A B i j 0 + part A B i j 1 = entry A B i j := by
    refine Eq.symm ((Fin.sum_univ_add (a := 2048) (b := 2048)
      (fun K => A (ValueIdx.ix2 i K) * B (ValueIdx.ix2 j K))).trans (congrArg₂ (· + ·) ?_ rfl))
    refine Finset.sum_congr rfl fun k _ => ?_
    have e : (Fin.castAdd 2048 k : Fin 4096) = ⟨2048 * (0 : Fin 2).val + k.val, by omega⟩ := Fin.ext (by simp)
    exact congrArg (fun K : Fin 4096 => A (ValueIdx.ix2 i K) * B (ValueIdx.ix2 j K)) e
  obtain ⟨rfl, rfl⟩ | ⟨rfl, rfl⟩ : (b = 0 ∧ b' = 1) ∨ (b = 1 ∧ b' = 0) := by omega
  · exact h01
  · exact (add_comm _ _).trans h01

section Whole

variable (m : (ℓ : Loc nD τ sig) → Buf (Elt Ideal) ℓ) (A B : FVec Ideal ⟨2, ![512, 4096]⟩ .bf16)

/-- Every device holds its half of the columns of both arrays, every device of a column along `x` the same. -/
def Holds : Prop := ∀ c : Dev nD,
  m ((c.tc : Thread nD τ).loc main_arg0) = Layout.blockN ⟨2, ![512, 2048]⟩ ⟨2, ![512, 4096]⟩ (Layout.meshBlock [2, 2] ![[], [1]] c) A
  ∧ m ((c.tc : Thread nD τ).loc main_arg1) = Layout.blockN ⟨2, ![512, 2048]⟩ ⟨2, ![512, 4096]⟩ (Layout.meshBlock [2, 2] ![[], [1]] c) B

/-- A device's place along `y`: the half of the columns it holds. -/
def col (c : Dev nD) : Fin 2 := ⟨c.val % 2, Nat.mod_lt _ (by decide)⟩

/-- The half read at `(i, k)` is the whole read at `(i, 2048 * y + k)`. -/
theorem block_apply (X : FVec Ideal ⟨2, ![512, 4096]⟩ .bf16) (c : Dev nD) (i : Fin 512) (k : Fin 2048) :
    Layout.blockN ⟨2, ![512, 2048]⟩ ⟨2, ![512, 4096]⟩ (Layout.meshBlock [2, 2] ![[], [1]] c) X (by decide) (ValueIdx.ix2 i k)
      = X (ValueIdx.ix2 i ⟨2048 * (col c).val + k.val, by omega⟩) := by
  have hc : Layout.meshLin [2, 2] c.val [1] = c.val % 2 := by revert c; decide +kernel
  refine congrArg X (funext fun a => Fin.ext ?_)
  match a with
  | ⟨0, _⟩ => exact (congrArg (· + i.val) (Nat.zero_mul _)).trans (Nat.zero_add _)
  | ⟨1, _⟩ => exact congrArg (· + k.val) ((congrArg (· * 2048) hc).trans (Nat.mul_comm _ _))

variable {m A B}

/-- A partial product is one part of an entry of the whole product. -/
theorem prod_eq (h : Holds m A B) (c : Dev nD) (r : Fin 256) (j i : Fin 512) (hi : i.val = 256 * (c.val / 2) + r.val) :
    prod (dIn m) (wIn m) c (ValueIdx.ix2 r j) = part A B i j (col c) := by
  rw [prod_apply]
  refine Finset.sum_congr rfl fun k _ => ?_
  rw [dIn_apply, wIn_apply, (h c).1, (h c).2, ← (Fin.ext hi : i = ⟨256 * (c.val / 2) + r.val, hi ▸ i.isLt⟩)]
  exact congrArg₂ (· * ·) (block_apply A c _ k) (block_apply B c j k)

/-- The sum of a pair is the whole entry. -/
theorem total_eq (h : Holds m A B) (c : Dev nD) (r : Fin 256) (j i : Fin 512) (hi : i.val = 256 * (c.val / 2) + r.val) :
    total (dIn m) (wIn m) c (ValueIdx.ix2 r j) = entry A B i j := by
  have hx : (dY c).val / 2 = c.val / 2 := by clear hi; revert c; decide +kernel
  have hy : col c ≠ col (dY c) := by clear hi hx; revert c; decide +kernel
  rw [total_apply, prod_eq h c r j i hi, prod_eq h (dY c) r j i (hx ▸ hi)]
  exact entry_eq A B i j _ _ hy

/-- Every device ends with the whole product. -/
theorem out_apply (h : Holds m A B) (c : Dev nD) (i j : Fin 512) : out m c (ValueIdx.ix2 i j) = entry A B i j := by
  have hn : c.val < 4 := c.isLt
  have hx : (dX c).val / 2 = 1 - c.val / 2 := by revert c; decide +kernel
  have hp : place c (ValueIdx.ix2 i j) = (i.val + 256 * (c.val / 2)) % 512 := rfl
  have hi : inHalf c (ValueIdx.ix2 i j) = ValueIdx.ix2 ⟨place c (ValueIdx.ix2 i j) % 256, Nat.mod_lt _ (by decide)⟩ j :=
    funext fun a => match a with | ⟨0, _⟩ => rfl | ⟨1, _⟩ => rfl
  unfold out result
  rw [hi]
  split
  · exact total_eq h c _ j i (by simp only [hp] at *; omega)
  · exact total_eq h (dX c) _ j i (by simp only [hp, hx] at *; omega)

end Whole

/-! ## The reference -/

/-- The reference's result, entry by entry, is the whole product. -/
theorem reference_apply (A B : FVec Ideal ⟨2, ![512, 4096]⟩ .bf16) (i j : Fin 512) :
    Host.dotGeneral ReferenceIdeal.dot_S512x4096_S4096x512_S512x512_1_0_0_1_n_n none A
      (transpose ReferenceIdeal.S4096x512 [1, 0] B ReferenceIdeal.Gen.facts.transposes_S512x4096_S4096x512_1_0)
      (ValueIdx.ix2 i j) = entry A B i j := by
  refine (StackMember.dotGeneral_plain_apply none A _ i j).trans (Finset.sum_congr rfl fun K _ => ?_)
  refine congrArg (A (ValueIdx.ix2 i K) * ·) (transpose_apply _ _ _ _ _ fun a => ?_)
  match a with
  | ⟨0, _⟩ => rfl
  | ⟨1, _⟩ => rfl

end Cert.KernelIdeal.Proto

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Adequacy
public import Idealize.ShloMosaic.Init

@[expose] public section

noncomputable section

namespace Cert.Proof

open Idealize.ShloMosaic Idealize.SL.Sem Cert.Kernel

/-- The two readings of the kernel are the same text, so they have the same table of bodies. -/
theorem defs_eq {F : FTy → Type} [FloatOps F] : Cert.KernelIdeal.defs (F := F) = Cert.Kernel.defs (F := F) := by
  refine congrArg (Pipeline.defs Cert.Kernel.pcfgs) ?_
  unfold Cert.KernelIdeal.defs₀ Cert.Kernel.defs₀
  refine congrArg Defs.onTc (funext fun l => funext fun a => ?_)
  match l, a with
  | ⟨0, _⟩, (_, _) => rfl

/-- The kernel's text, over any float values: it runs, leaves its arguments as they were, and every counter at zero. -/
theorem frame {F : FTy → Type} [FloatOps F]
    (m : (ℓ : Loc Cert.KernelIdeal.nD Cert.KernelIdeal.τ Cert.KernelIdeal.sig) → Buf (Elt F) ℓ) (ρ : Dev Cert.KernelIdeal.nD → PrngReg)
    {d : Defs _ _ _ _ _} (hd : Cert.KernelIdeal.defs (F := F) = d) :
    θ_run d (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
      ∧ r.2.sem = fun _ => 0 := by
  subst hd
  exact (θ_run Cert.KernelIdeal.defs _ _).mono (fun _ h => ⟨fun c => (h.1 c).2, h.2⟩) (Cert.KernelIdeal.Proto.run_main m ρ)

/-- Over the machine's words. -/
theorem kernel_frame : Cert.quiescent_Kernel (hKernel := Cert.Kernel.Gen.facts) := fun m ρ _ => frame (F := Bits) m ρ defs_eq

/-- Over the extended reals. -/
theorem kernelIdeal_frame : Cert.quiescent_KernelIdeal (hKernelIdeal := Cert.KernelIdeal.Gen.facts) := fun m ρ _ => frame (F := Ideal) m ρ rfl

/-- The same for the reference, which has no semaphore. -/
theorem referenceIdeal_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device ends with the reference's result. -/
theorem algebraic : Cert.algebraic_KernelIdeal_ReferenceIdeal (hKernelIdeal := Cert.KernelIdeal.Gen.facts)
    (hReferenceIdeal := Cert.ReferenceIdeal.Gen.facts) := fun m ρ m' ρ' _ h => by
  refine ⟨_, (θ_run Cert.KernelIdeal.defs _ _).mono (fun _ hr c => ⟨(hr.1 c).1.trans ?_, (hr.1 c).2⟩)
      (Cert.KernelIdeal.Proto.run_main (F := Ideal) m ρ),
    (θ_run Cert.ReferenceIdeal.defs _ _).mono (fun _ hr => hr 0) (Cert.ReferenceIdeal.Value.run (F := Ideal) m' ρ')⟩
  refine funext fun x => ?_
  obtain ⟨i, j, rfl⟩ : ∃ i j : Fin 512, x = ValueIdx.ix2 i j := ⟨x 0, x 1, ValueIdx.eq_ix2 x⟩
  exact (Cert.KernelIdeal.Proto.out_apply h c i j).trans (Cert.KernelIdeal.Proto.reference_apply _ _ i j).symm

/-- All five claims. -/
theorem claim : Cert.Claim :=
  ⟨Cert.Kernel.Gen.facts, Cert.KernelIdeal.Gen.facts, Cert.ReferenceIdeal.Gen.facts,
    kernel_frame, kernelIdeal_frame, referenceIdeal_frame, trivial, algebraic⟩

end Cert.Proof

end
